-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_router_finite2 [hPre_router_finite2 : Cert.Pre_router_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_router_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_router_finite2 [hPre_router_finite2 : Cert.Pre_router_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_router_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_router_finite2 [hKernel2Ideal : Cert.Kernel2Ideal.Facts] [hPre_router_finite2 : Cert.Pre_router_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_router_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_router_finite2 [hReference2Ideal : Cert.Reference2Ideal.Facts] [hPre_router_finite2 : Cert.Pre_router_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_router_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_router_finite2 [hKernel2Ideal : Cert.Kernel2Ideal.Facts] [hReference2Ideal : Cert.Reference2Ideal.Facts] [hPre_router_finite2 : Cert.Pre_router_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_router_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_router_finite : Cert.Pre_router_finite.Facts) (hPre_router_finite2 : Cert.Pre_router_finite2.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ quiescent_Kernel2 (hKernel2 := hKernel2)
    ∧ quiescent_Kernel2Ideal (hKernel2Ideal := hKernel2Ideal)
    ∧ quiescent_Kernel2Ideal_pre_router_finite2 (hKernel2Ideal := hKernel2Ideal) (hPre_router_finite2 := hPre_router_finite2)
    ∧ quiescent_Reference2Ideal (hReference2Ideal := hReference2Ideal)
    ∧ quiescent_Reference2Ideal_pre_router_finite2 (hReference2Ideal := hReference2Ideal) (hPre_router_finite2 := hPre_router_finite2)
    ∧ preserves_Kernel_KernelIdeal
    ∧ algebraic_KernelIdeal_ReferenceIdeal_pre_router_finite (hKernelIdeal := hKernelIdeal) (hReferenceIdeal := hReferenceIdeal) (hPre_router_finite := hPre_router_finite)
    ∧ preserves_Kernel2_Kernel2Ideal
    ∧ algebraic_Kernel2Ideal_Reference2Ideal_pre_router_finite2 (hKernel2Ideal := hKernel2Ideal) (hReference2Ideal := hReference2Ideal) (hPre_router_finite2 := hPre_router_finite2)
-- ==== Pre_router_finite.lean ====
abbrev S32768x1024 : Shape := ⟨2, ![32768, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S32768x1024 .f32) (main_arg1 : FVec F S1024 .f32) (main_arg2 : FVec F S1024x4 .f32) (main_arg3 : FVec F S4 .f32) (main_arg4 : FVec F S1024x16 .f32) (main_arg5 : FVec F S16 .f32) (main_arg6 : FVec F S16x1024x256 .f32) (main_arg7 : FVec F S16x1024x256 .f32) (main_arg8 : FVec F S16x256x1024 .f32) (main_arg9 : FVec F S32768x1024 .bf16) (main_arg10 : FVec F S1024x1024 .f32) (main_arg11 : FVec F S1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4 .f32 := Host.absf main_arg2
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1024x16 .f32 := Host.absf main_arg4
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg5 main_v13 main_v16
-- ==== Pre_router_finite2.lean ====
abbrev S32768x1024 : Shape := ⟨2, ![32768, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S32768x1024 .f32) (main_arg1 : FVec F S1024 .f32) (main_arg2 : FVec F S1024x4 .f32) (main_arg3 : FVec F S4 .f32) (main_arg4 : FVec F S1024x16 .f32) (main_arg5 : FVec F S16 .f32) (main_arg6 : FVec F S16x1024x256 .f32) (main_arg7 : FVec F S16x1024x256 .f32) (main_arg8 : FVec F S16x256x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4 .f32 := Host.absf main_arg2
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1024x16 .f32 := Host.absf main_arg4
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg5 main_v13 main_v16
-- ==== Kernel.lean ====
abbrev S32768x1024 : Shape := ⟨2, ![32768, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024x1024 : Shape := ⟨2, ![1024, 1024]⟩
abbrev S4x1024 : Shape := ⟨2, ![4, 1024]⟩
abbrev S16x1024 : Shape := ⟨2, ![16, 1024]⟩
abbrev S_ : Shape := ⟨0, ![]⟩
abbrev S12x1024 : Shape := ⟨2, ![12, 1024]⟩
abbrev S32x1024 : Shape := ⟨2, ![32, 1024]⟩
abbrev S12 : Shape := ⟨1, ![12]⟩
abbrev S32 : Shape := ⟨1, ![32]⟩
abbrev S32x1 : Shape := ⟨2, ![32, 1]⟩
abbrev S512x512 : Shape := ⟨2, ![512, 512]⟩
abbrev S1x1024 : Shape := ⟨2, ![1, 1024]⟩
abbrev S64x1024 : Shape := ⟨2, ![64, 1024]⟩
abbrev S512x1024 : Shape := ⟨2, ![512, 1024]⟩
abbrev S512 : Shape := ⟨1, ![512]⟩
abbrev S512x1 : Shape := ⟨2, ![512, 1]⟩
abbrev S64x512 : Shape := ⟨2, ![64, 512]⟩
abbrev S32x512 : Shape := ⟨2, ![32, 512]⟩
abbrev S1x512 : Shape := ⟨2, ![1, 512]⟩
abbrev S16x512 : Shape := ⟨2, ![16, 512]⟩
abbrev S640x512 : Shape := ⟨2, ![640, 512]⟩
abbrev S96x512 : Shape := ⟨2, ![96, 512]⟩
abbrev S128x512 : Shape := ⟨2, ![128, 512]⟩
abbrev S512x128 : Shape := ⟨2, ![512, 128]⟩
abbrev S640x1024 : Shape := ⟨2, ![640, 1024]⟩
abbrev S512x256 : Shape := ⟨2, ![512, 256]⟩
abbrev S640x256 : Shape := ⟨2, ![640, 256]⟩
abbrev S640x128 : Shape := ⟨2, ![640, 128]⟩
abbrev S160x1024 : Shape := ⟨2, ![160, 1024]⟩
abbrev S1x1024x256 : Shape := ⟨3, ![1, 1024, 256]⟩
abbrev S1024x256 : Shape := ⟨2, ![1024, 256]⟩
abbrev S160x256 : Shape := ⟨2, ![160, 256]⟩
abbrev S160x1 : Shape := ⟨2, ![160, 1]⟩
abbrev S1x256x1024 : Shape := ⟨3, ![1, 256, 1024]⟩
abbrev S256x1024 : Shape := ⟨2, ![256, 1024]⟩
abbrev S1x1x512 : Shape := ⟨3, ![1, 1, 512]⟩
abbrev S1 : Shape := ⟨1, ![1]⟩
abbrev S1x1x1 : Shape := ⟨3, ![1, 1, 1]⟩

abbrev nBuf : Space → Nat
  | .hbm => 45
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x16, .f32⟩
  | .hbm, ⟨5, _⟩ => ⟨S16, .f32⟩
  | .hbm, ⟨6, _⟩ => ⟨S16x1024x256, .f32⟩
  | .hbm, ⟨7, _⟩ => ⟨S16x1024x256, .f32⟩
  | .hbm, ⟨8, _⟩ => ⟨S16x256x1024, .f32⟩
  | .hbm, ⟨9, _⟩ => ⟨S32768x1024, .bf16⟩
  | .hbm, ⟨10, _⟩ => ⟨S1024x1024, .f32⟩
  | .hbm, ⟨11, _⟩ => ⟨S1024, .f32⟩
  | .hbm, ⟨12, _⟩ => ⟨S4x1024, .f32⟩
  | .hbm, ⟨13, _⟩ => ⟨S16x1024, .f32⟩
  | .hbm, ⟨14, _⟩ => ⟨S_, .f32⟩
  | .hbm, ⟨15, _⟩ => ⟨S12x1024, .f32⟩
  | .hbm, ⟨16, _⟩ => ⟨S32x1024, .f32⟩
  | .hbm, ⟨17, _⟩ => ⟨S32x1024, .bf16⟩
  | .hbm, ⟨18, _⟩ => ⟨S32x1024, .f32⟩
  | .hbm, ⟨19, _⟩ => ⟨S32x1024, .f32⟩
  | .hbm, ⟨20, _⟩ => ⟨S32x1024, .bf16⟩
  | .hbm, ⟨21, _⟩ => ⟨S_, .f32⟩
  | .hbm, ⟨22, _⟩ => ⟨S12, .f32⟩
  | .hbm, ⟨23, _⟩ => ⟨S32, .f32⟩
  | .hbm, ⟨24, _⟩ => ⟨S32x1, .f32⟩
  | .hbm, ⟨25, _⟩ => ⟨S_, .f32⟩
  | .hbm, ⟨26, _⟩ => ⟨S512x512, .f32⟩
  | .hbm, ⟨27, _⟩ => ⟨S512x512, .i32⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S512x512, .bf16⟩
  | .hbm, ⟨37, _⟩ => ⟨S1024x1024, .bf16⟩
  | .hbm, ⟨38, _⟩ => ⟨S1x1024, .f32⟩
  | .hbm, ⟨39, _⟩ => ⟨S64x1024, .bf16⟩
  | .hbm, ⟨40, _⟩ => ⟨S16x1024x256, .bf16⟩
  | .hbm, ⟨41, _⟩ => ⟨S16x1024x256, .bf16⟩
  | .hbm, ⟨42, _⟩ => ⟨S16x256x1024, .bf16⟩
  | .hbm, ⟨43, _⟩ => ⟨S1x1024, .f32⟩
  | .hbm, ⟨44, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S64x1024, .bf16⟩
  | .local _ .vmem, ⟨7, _⟩ => ⟨S32x1, .f32⟩
  | .local _ .vmem, ⟨8, _⟩ => ⟨S512x512, .bf16⟩
  | .local _ .vmem, ⟨9, _⟩ => ⟨S16x1024x256, .bf16⟩
  | .local _ .vmem, ⟨10, _⟩ => ⟨S16x1024x256, .bf16⟩
  | .local _ .vmem, ⟨11, _⟩ => ⟨S16x256x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_cst : Ref sig .tc := ⟨.hbm, 33, rfl⟩
abbrev main_call0_v5 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S32768x1024 : Shape := ⟨2, ![32768, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S32768x1x1 : Shape := ⟨3, ![32768, 1, 1]⟩
abbrev S1 : Shape := ⟨1, ![1]⟩
abbrev S1x1x1 : Shape := ⟨3, ![1, 1, 1]⟩
abbrev S32768x16 : Shape := ⟨2, ![32768, 16]⟩
abbrev S1x16 : Shape := ⟨2, ![1, 16]⟩
abbrev S32768x4x4 : Shape := ⟨3, ![32768, 4, 4]⟩
abbrev S32768x1x4 : Shape := ⟨3, ![32768, 1, 4]⟩
abbrev S32768x2 : Shape := ⟨2, ![32768, 2]⟩
abbrev S32768x2x1 : Shape := ⟨3, ![32768, 2, 1]⟩
abbrev S1x1x16 : Shape := ⟨3, ![1, 1, 16]⟩
abbrev S32768x2x16 : Shape := ⟨3, ![32768, 2, 16]⟩
abbrev S32768x16x256 : Shape := ⟨3, ![32768, 16, 256]⟩
abbrev S32768x16x1 : Shape := ⟨3, ![32768, 16, 1]⟩
abbrev S32768x4096 : Shape := ⟨2, ![32768, 4096]⟩
abbrev S4096x1024 : Shape := ⟨2, ![4096, 1024]⟩

abbrev nBuf : Space → Nat
  | .hbm => 174
  | .vmem => 0
  | .smem => 0
  | _ => 0

abbrev hbmTy0_0 (i : Nat) : BufTy := match i % 128 with
  | 0 => ⟨S32768x1024, .f32⟩
  | 1 => ⟨S1024, .f32⟩
  | 2 => ⟨S1024x4, .f32⟩
  | 3 => ⟨S4, .f32⟩
  | 4 => ⟨S1024x16, .f32⟩
  | 5 => ⟨S16, .f32⟩
  | 6 => ⟨S16x1024x256, .f32⟩
  | 7 => ⟨S16x1024x256, .f32⟩
  | 8 => ⟨S16x256x1024, .f32⟩
  | 9 => ⟨S32768x1024, .bf16⟩
  | 10 => ⟨S1024x1024, .f32⟩
  | 11 => ⟨S1024, .f32⟩
  | 12 => ⟨S32768x1024, .f32⟩
  | 13 => ⟨S32768x1024, .f32⟩
  | 14 => ⟨S32768x1024, .f32⟩
  | 15 => ⟨S32768x1024, .f32⟩
  | 16 => ⟨S_, .f32⟩
  | 17 => ⟨S32768, .f32⟩
  | 18 => ⟨S32768x1, .f32⟩
  | 19 => ⟨S_, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x1024, .f32⟩
  | 27 => ⟨S32768x1024, .f32⟩
  | 28 => ⟨S1x1024, .f32⟩
  | 29 => ⟨S32768x1024, .f32⟩
  | 30 => ⟨S32768x1024, .f32⟩
  | 31 => ⟨S32768x4, .f32⟩
  | 32 => ⟨S1x4, .f32⟩
  | 33 => ⟨S32768x4, .f32⟩
  | 34 => ⟨S32768x4, .f32⟩
  | 35 => ⟨S_, .f32⟩
  | 36 => ⟨S32768, .f32⟩
  | 37 => ⟨S_, .f32⟩
  | 38 => ⟨S32768, .f32⟩
  | 39 => ⟨S32768, .f32⟩
  | 40 => ⟨S32768x1, .f32⟩
  | 41 => ⟨S32768x4, .f32⟩
  | 42 => ⟨S32768x4, .f32⟩
  | 43 => ⟨S32768x4, .f32⟩
  | 44 => ⟨S_, .f32⟩
  | 45 => ⟨S32768, .f32⟩
  | 46 => ⟨S32768x1, .f32⟩
  | 47 => ⟨S32768x4, .f32⟩
  | 48 => ⟨S32768x4, .f32⟩
  | 49 => ⟨S32768x1, .f32⟩
  | 50 => ⟨S32768x1, .i32⟩
  | 51 => ⟨S32768, .i32⟩
  | 52 => ⟨S32768x1, .i32⟩
  | 53 => ⟨S_, .i32⟩
  | 54 => ⟨S32768x1, .i32⟩
  | 55 => ⟨S32768x1, .i1⟩
  | 56 => ⟨S_, .i32⟩
  | 57 => ⟨S32768x1, .i32⟩
  | 58 => ⟨S32768x1, .i32⟩
  | 59 => ⟨S32768x1, .i32⟩
  | 60 => ⟨S32768x1x1, .i32⟩
  | 61 => ⟨S1, .i32⟩
  | 62 => ⟨S_, .i32⟩
  | 63 => ⟨S32768x1x1, .i32⟩
  | 64 => ⟨S32768x1x1, .i1⟩
  | 65 => ⟨S1x1x1, .i32⟩
  | 66 => ⟨S32768x1x1, .i32⟩
  | 67 => ⟨S32768x1x1, .i1⟩
  | 68 => ⟨S32768x1x1, .i1⟩
  | 69 => ⟨S_, .i1⟩
  | 70 => ⟨S32768x1, .i1⟩
  | 71 => ⟨S32768x1, .f32⟩
  | 72 => ⟨S_, .f32⟩
  | 73 => ⟨S32768x1, .f32⟩
  | 74 => ⟨S32768x1, .f32⟩
  | 75 => ⟨S32768x16, .f32⟩
  | 76 => ⟨S1x16, .f32⟩
  | 77 => ⟨S32768x16, .f32⟩
  | 78 => ⟨S32768x16, .f32⟩
  | 79 => ⟨S32768x4x4, .f32⟩
  | 80 => ⟨S32768x1x1, .i32⟩
  | 81 => ⟨S_, .i32⟩
  | 82 => ⟨S32768x1x1, .i32⟩
  | 83 => ⟨S32768x1x1, .i1⟩
  | 84 => ⟨S_, .i32⟩
  | 85 => ⟨S32768x1x1, .i32⟩
  | 86 => ⟨S32768x1x1, .i32⟩
  | 87 => ⟨S32768x1x1, .i32⟩
  | 88 => ⟨S1, .i32⟩
  | 89 => ⟨S_, .i32⟩
  | 90 => ⟨S32768x1x1, .i32⟩
  | 91 => ⟨S32768x1x1, .i1⟩
  | 92 => ⟨S1x1x1, .i32⟩
  | 93 => ⟨S32768x1x1, .i32⟩
  | 94 => ⟨S32768x1x1, .i1⟩
  | 95 => ⟨S32768x1x1, .i1⟩
  | 96 => ⟨S_, .i1⟩
  | 97 => ⟨S32768x1, .i1⟩
  | 98 => ⟨S32768x1x4, .f32⟩
  | 99 => ⟨S32768x1x4, .i1⟩
  | 100 => ⟨S_, .f32⟩
  | 101 => ⟨S32768x1x4, .f32⟩
  | 102 => ⟨S32768x1x4, .f32⟩
  | 103 => ⟨S32768x4, .f32⟩
  | 104 => ⟨S32768x2, .f32⟩
  | 105 => ⟨S32768x2, .i32⟩
  | 106 => ⟨S_, .f32⟩
  | 107 => ⟨S32768, .f32⟩
  | 108 => ⟨S_, .f32⟩
  | 109 => ⟨S32768, .f32⟩
  | 110 => ⟨S32768, .f32⟩
  | 111 => ⟨S32768x1, .f32⟩
  | 112 => ⟨S32768x2, .f32⟩
  | 113 => ⟨S32768x2, .f32⟩
  | 114 => ⟨S32768x2, .f32⟩
  | 115 => ⟨S_, .f32⟩
  | 116 => ⟨S32768, .f32⟩
  | 117 => ⟨S32768x1, .f32⟩
  | 118 => ⟨S32768x2, .f32⟩
  | 119 => ⟨S32768x2, .f32⟩
  | 120 => ⟨S32768x2, .f32⟩
  | 121 => ⟨S32768x2, .f32⟩
  | 122 => ⟨S32768x1, .i32⟩
  | 123 => ⟨S_, .i32⟩
  | 124 => ⟨S32768x1, .i32⟩
  | 125 => ⟨S32768x1, .i32⟩
  | 126 => ⟨S32768x2, .i32⟩
  | 127 => ⟨S32768x2, .i32⟩
  | _ => ⟨S32768x1024, .f32⟩

abbrev hbmTy0_1 (i : Nat) : BufTy := match i % 128 with
  | 0 => ⟨S32768x2x1, .i32⟩
  | 1 => ⟨S1x1x16, .i32⟩
  | 2 => ⟨S32768x2x16, .i32⟩
  | 3 => ⟨S32768x2x16, .i32⟩
  | 4 => ⟨S32768x2x16, .i1⟩
  | 5 => ⟨S32768x2x16, .f32⟩
  | 6 => ⟨S32768x2x1, .f32⟩
  | 7 => ⟨S32768x2x16, .f32⟩
  | 8 => ⟨S32768x2x16, .f32⟩
  | 9 => ⟨S_, .f32⟩
  | 10 => ⟨S32768x16, .f32⟩
  | 11 => ⟨S32768x16x256, .f32⟩
  | 12 => ⟨S32768x16x256, .f32⟩
  | 13 => ⟨S32768x16x256, .f32⟩
  | 14 => ⟨S32768x16x256, .f32⟩
  | 15 => ⟨S_, .f32⟩
  | 16 => ⟨S32768x16x256, .f32⟩
  | 17 => ⟨S32768x16x256, .f32⟩
  | 18 => ⟨S_, .f32⟩
  | 19 => ⟨S32768x16x256, .f32⟩
  | 20 => ⟨S32768x16x256, .f32⟩
  | 21 => ⟨S32768x16x256, .f32⟩
  | 22 => ⟨S32768x16x256, .f32⟩
  | 23 => ⟨S32768x16x1, .f32⟩
  | 24 => ⟨S32768x16x256, .f32⟩
  | 25 => ⟨S32768x16x256, .f32⟩
  | 26 => ⟨S32768x4096, .f32⟩
  | 27 => ⟨S4096x1024, .f32⟩
  | 28 => ⟨S32768x1024, .f32⟩
  | 29 => ⟨S32768x1024, .f32⟩
  | 30 => ⟨S32768x1024, .f32⟩
  | 31 => ⟨S_, .f32⟩
  | 32 => ⟨S32768, .f32⟩
  | 33 => ⟨S32768x1, .f32⟩
  | 34 => ⟨S_, .f32⟩
  | 35 => ⟨S32768x1, .f32⟩
  | 36 => ⟨S32768x1, .f32⟩
  | 37 => ⟨S_, .f32⟩
  | 38 => ⟨S32768x1, .f32⟩
  | 39 => ⟨S32768x1, .f32⟩
  | 40 => ⟨S32768x1, .f32⟩
  | 41 => ⟨S32768x1024, .f32⟩
  | 42 => ⟨S32768x1024, .f32⟩
  | 43 => ⟨S1x1024, .f32⟩
  | 44 => ⟨S32768x1024, .f32⟩
  | 45 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_values : Ref sig .tc := ⟨.hbm, 49, rfl⟩
abbrev main_indices : Ref sig .tc := ⟨.hbm, 50, rfl⟩
abbrev main_v31 : Ref sig .tc := ⟨.hbm, 51, rfl⟩
abbrev main_v32 : Ref sig .tc := ⟨.hbm, 52, rfl⟩
abbrev main_call0_c : Ref sig .tc := ⟨.hbm, 53, rfl⟩
abbrev main_call0_v0 : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_c_1 : Ref sig .tc := ⟨.hbm, 61, rfl⟩
abbrev main_call0_c_2 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_3 : Ref sig .tc := ⟨.hbm, 69, rfl⟩
abbrev main_call0_v12 : Ref sig .tc := ⟨.hbm, 70, rfl⟩
abbrev main_call0_v13 : Ref sig .tc := ⟨.hbm, 71, rfl⟩
abbrev main_call0_cst : Ref sig .tc := ⟨.hbm, 72, rfl⟩
abbrev main_call0_v14 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_call1_c : Ref sig .tc := ⟨.hbm, 81, rfl⟩
abbrev main_call1_v0 : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_c_1 : Ref sig .tc := ⟨.hbm, 88, rfl⟩
abbrev main_call1_c_2 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_c_3 : Ref sig .tc := ⟨.hbm, 96, rfl⟩
abbrev main_call1_v11 : Ref sig .tc := ⟨.hbm, 97, rfl⟩
abbrev main_call1_v12 : Ref sig .tc := ⟨.hbm, 98, rfl⟩
abbrev main_call1_v13 : Ref sig .tc := ⟨.hbm, 99, rfl⟩
abbrev main_call1_cst : Ref sig .tc := ⟨.hbm, 100, rfl⟩
abbrev main_call1_v14 : Ref sig .tc := ⟨.hbm, 101, rfl⟩
abbrev main_v40 : Ref sig .tc := ⟨.hbm, 102, rfl⟩
abbrev main_v41 : Ref sig .tc := ⟨.hbm, 103, rfl⟩
abbrev main_values_5 : Ref sig .tc := ⟨.hbm, 104, rfl⟩
abbrev main_indices_6 : Ref sig .tc := ⟨.hbm, 105, rfl⟩
abbrev main_cst_7 : Ref sig .tc := ⟨.hbm, 106, rfl⟩
abbrev main_v42 : Ref sig .tc := ⟨.hbm, 107, rfl⟩
abbrev main_cst_8 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_cst_9 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_c : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_cst_10 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_call3_v0 : Ref sig .tc := ⟨.hbm, 141, rfl⟩
abbrev main_call3_v1 : Ref sig .tc := ⟨.hbm, 142, rfl⟩
abbrev main_call3_cst : Ref sig .tc := ⟨.hbm, 143, rfl⟩
abbrev main_call3_v2 : Ref sig .tc := ⟨.hbm, 144, rfl⟩
abbrev main_call3_v3 : Ref sig .tc := ⟨.hbm, 145, rfl⟩
abbrev main_call3_cst_0 : Ref sig .tc := ⟨.hbm, 146, rfl⟩
abbrev main_call3_v4 : Ref sig .tc := ⟨.hbm, 147, rfl⟩
abbrev main_call3_v5 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_cst_11 : Ref sig .tc := ⟨.hbm, 159, rfl⟩
abbrev main_v77 : Ref sig .tc := ⟨.hbm, 160, rfl⟩
abbrev main_v78 : Ref sig .tc := ⟨.hbm, 161, rfl⟩
abbrev main_cst_12 : Ref sig .tc := ⟨.hbm, 162, rfl⟩
abbrev main_v79 : Ref sig .tc := ⟨.hbm, 163, rfl⟩
abbrev main_v80 : Ref sig .tc := ⟨.hbm, 164, rfl⟩
abbrev main_cst_13 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S4x1024 : Shape := ⟨2, ![4, 1024]⟩
abbrev S16x1024 : Shape := ⟨2, ![16, 1024]⟩
abbrev S_ : Shape := ⟨0, ![]⟩
abbrev S12x1024 : Shape := ⟨2, ![12, 1024]⟩
abbrev S32x1024 : Shape := ⟨2, ![32, 1024]⟩
abbrev S12 : Shape := ⟨1, ![12]⟩
abbrev S32 : Shape := ⟨1, ![32]⟩
abbrev S32x1 : Shape := ⟨2, ![32, 1]⟩
abbrev S512x512 : Shape := ⟨2, ![512, 512]⟩
abbrev S1x1024 : Shape := ⟨2, ![1, 1024]⟩
abbrev S64x1024 : Shape := ⟨2, ![64, 1024]⟩
abbrev S512x1024 : Shape := ⟨2, ![512, 1024]⟩
abbrev S512 : Shape := ⟨1, ![512]⟩
abbrev S512x1 : Shape := ⟨2, ![512, 1]⟩
abbrev S64x512 : Shape := ⟨2, ![64, 512]⟩
abbrev S32x512 : Shape := ⟨2, ![32, 512]⟩
abbrev S1x512 : Shape := ⟨2, ![1, 512]⟩
abbrev S16x512 : Shape := ⟨2, ![16, 512]⟩
abbrev S640x512 : Shape := ⟨2, ![640, 512]⟩
abbrev S96x512 : Shape := ⟨2, ![96, 512]⟩
abbrev S128x512 : Shape := ⟨2, ![128, 512]⟩
abbrev S512x128 : Shape := ⟨2, ![512, 128]⟩
abbrev S640x1024 : Shape := ⟨2, ![640, 1024]⟩
abbrev S512x256 : Shape := ⟨2, ![512, 256]⟩
abbrev S640x256 : Shape := ⟨2, ![640, 256]⟩
abbrev S640x128 : Shape := ⟨2, ![640, 128]⟩
abbrev S160x1024 : Shape := ⟨2, ![160, 1024]⟩
abbrev S1x1024x256 : Shape := ⟨3, ![1, 1024, 256]⟩
abbrev S1024x256 : Shape := ⟨2, ![1024, 256]⟩
abbrev S160x256 : Shape := ⟨2, ![160, 256]⟩
abbrev S160x1 : Shape := ⟨2, ![160, 1]⟩
abbrev S1x256x1024 : Shape := ⟨3, ![1, 256, 1024]⟩
abbrev S256x1024 : Shape := ⟨2, ![256, 1024]⟩
abbrev S1x1x512 : Shape := ⟨3, ![1, 1, 512]⟩
abbrev S1 : Shape := ⟨1, ![1]⟩
abbrev S1x1x1 : Shape := ⟨3, ![1, 1, 1]⟩

abbrev nBuf : Space → Nat
  | .hbm => 40
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x16, .f32⟩
  | .hbm, ⟨5, _⟩ => ⟨S16, .f32⟩
  | .hbm, ⟨6, _⟩ => ⟨S16x1024x256, .f32⟩
  | .hbm, ⟨7, _⟩ => ⟨S16x1024x256, .f32⟩
  | .hbm, ⟨8, _⟩ => ⟨S16x256x1024, .f32⟩
  | .hbm, ⟨9, _⟩ => ⟨S4x1024, .f32⟩
  | .hbm, ⟨10, _⟩ => ⟨S16x1024, .f32⟩
  | .hbm, ⟨11, _⟩ => ⟨S_, .f32⟩
  | .hbm, ⟨12, _⟩ => ⟨S12x1024, .f32⟩
  | .hbm, ⟨13, _⟩ => ⟨S32x1024, .f32⟩
  | .hbm, ⟨14, _⟩ => ⟨S32x1024, .bf16⟩
  | .hbm, ⟨15, _⟩ => ⟨S32x1024, .f32⟩
  | .hbm, ⟨16, _⟩ => ⟨S32x1024, .f32⟩
  | .hbm, ⟨17, _⟩ => ⟨S32x1024, .bf16⟩
  | .hbm, ⟨18, _⟩ => ⟨S_, .f32⟩
  | .hbm, ⟨19, _⟩ => ⟨S12, .f32⟩
  | .hbm, ⟨20, _⟩ => ⟨S32, .f32⟩
  | .hbm, ⟨21, _⟩ => ⟨S32x1, .f32⟩
  | .hbm, ⟨22, _⟩ => ⟨S_, .f32⟩
  | .hbm, ⟨23, _⟩ => ⟨S512x512, .f32⟩
  | .hbm, ⟨24, _⟩ => ⟨S512x512, .i32⟩
  | .hbm, ⟨25, _⟩ => ⟨S_, .i32⟩
  | .hbm, ⟨26, _⟩ => ⟨S512x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .bf16⟩
  | .hbm, ⟨34, _⟩ => ⟨S1x1024, .f32⟩
  | .hbm, ⟨35, _⟩ => ⟨S64x1024, .bf16⟩
  | .hbm, ⟨36, _⟩ => ⟨S16x1024x256, .bf16⟩
  | .hbm, ⟨37, _⟩ => ⟨S16x1024x256, .bf16⟩
  | .hbm, ⟨38, _⟩ => ⟨S16x256x1024, .bf16⟩
  | .hbm, ⟨39, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S64x1024, .bf16⟩
  | .local _ .vmem, ⟨4, _⟩ => ⟨S32x1, .f32⟩
  | .local _ .vmem, ⟨5, _⟩ => ⟨S512x512, .bf16⟩
  | .local _ .vmem, ⟨6, _⟩ => ⟨S16x1024x256, .bf16⟩
  | .local _ .vmem, ⟨7, _⟩ => ⟨S16x1024x256, .bf16⟩
  | .local _ .vmem, ⟨8, _⟩ => ⟨S16x256x1024, .bf16⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_cst : Ref sig .tc := ⟨.hbm, 30, rfl⟩
abbrev main_call0_v5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x1024 : Shape := ⟨2, ![32768, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S32768x1x1 : Shape := ⟨3, ![32768, 1, 1]⟩
abbrev S1 : Shape := ⟨1, ![1]⟩
abbrev S1x1x1 : Shape := ⟨3, ![1, 1, 1]⟩
abbrev S32768x16 : Shape := ⟨2, ![32768, 16]⟩
abbrev S1x16 : Shape := ⟨2, ![1, 16]⟩
abbrev S32768x4x4 : Shape := ⟨3, ![32768, 4, 4]⟩
abbrev S32768x1x4 : Shape := ⟨3, ![32768, 1, 4]⟩
abbrev S32768x2 : Shape := ⟨2, ![32768, 2]⟩
abbrev S32768x2x1 : Shape := ⟨3, ![32768, 2, 1]⟩
abbrev S1x1x16 : Shape := ⟨3, ![1, 1, 16]⟩
abbrev S32768x2x16 : Shape := ⟨3, ![32768, 2, 16]⟩
abbrev S32768x16x256 : Shape := ⟨3, ![32768, 16, 256]⟩
abbrev S32768x16x1 : Shape := ⟨3, ![32768, 16, 1]⟩
abbrev S32768x4096 : Shape := ⟨2, ![32768, 4096]⟩
abbrev S4096x1024 : Shape := ⟨2, ![4096, 1024]⟩

abbrev nBuf : Space → Nat
  | .hbm => 152
  | .vmem => 0
  | .smem => 0
  | _ => 0

abbrev hbmTy0_0 (i : Nat) : BufTy := match i % 128 with
  | 0 => ⟨S32768x1024, .f32⟩
  | 1 => ⟨S1024, .f32⟩
  | 2 => ⟨S1024x4, .f32⟩
  | 3 => ⟨S4, .f32⟩
  | 4 => ⟨S1024x16, .f32⟩
  | 5 => ⟨S16, .f32⟩
  | 6 => ⟨S16x1024x256, .f32⟩
  | 7 => ⟨S16x1024x256, .f32⟩
  | 8 => ⟨S16x256x1024, .f32⟩
  | 9 => ⟨S32768x1024, .f32⟩
  | 10 => ⟨S_, .f32⟩
  | 11 => ⟨S32768, .f32⟩
  | 12 => ⟨S32768x1, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x1, .f32⟩
  | 20 => ⟨S32768x1024, .f32⟩
  | 21 => ⟨S32768x1024, .f32⟩
  | 22 => ⟨S1x1024, .f32⟩
  | 23 => ⟨S32768x1024, .f32⟩
  | 24 => ⟨S32768x1024, .f32⟩
  | 25 => ⟨S32768x4, .f32⟩
  | 26 => ⟨S1x4, .f32⟩
  | 27 => ⟨S32768x4, .f32⟩
  | 28 => ⟨S32768x4, .f32⟩
  | 29 => ⟨S_, .f32⟩
  | 30 => ⟨S32768, .f32⟩
  | 31 => ⟨S_, .f32⟩
  | 32 => ⟨S32768, .f32⟩
  | 33 => ⟨S32768, .f32⟩
  | 34 => ⟨S32768x1, .f32⟩
  | 35 => ⟨S32768x4, .f32⟩
  | 36 => ⟨S32768x4, .f32⟩
  | 37 => ⟨S32768x4, .f32⟩
  | 38 => ⟨S_, .f32⟩
  | 39 => ⟨S32768, .f32⟩
  | 40 => ⟨S32768x1, .f32⟩
  | 41 => ⟨S32768x4, .f32⟩
  | 42 => ⟨S32768x4, .f32⟩
  | 43 => ⟨S32768x1, .f32⟩
  | 44 => ⟨S32768x1, .i32⟩
  | 45 => ⟨S32768, .i32⟩
  | 46 => ⟨S32768x1, .i32⟩
  | 47 => ⟨S_, .i32⟩
  | 48 => ⟨S32768x1, .i32⟩
  | 49 => ⟨S32768x1, .i1⟩
  | 50 => ⟨S_, .i32⟩
  | 51 => ⟨S32768x1, .i32⟩
  | 52 => ⟨S32768x1, .i32⟩
  | 53 => ⟨S32768x1, .i32⟩
  | 54 => ⟨S32768x1x1, .i32⟩
  | 55 => ⟨S1, .i32⟩
  | 56 => ⟨S_, .i32⟩
  | 57 => ⟨S32768x1x1, .i32⟩
  | 58 => ⟨S32768x1x1, .i1⟩
  | 59 => ⟨S1x1x1, .i32⟩
  | 60 => ⟨S32768x1x1, .i32⟩
  | 61 => ⟨S32768x1x1, .i1⟩
  | 62 => ⟨S32768x1x1, .i1⟩
  | 63 => ⟨S_, .i1⟩
  | 64 => ⟨S32768x1, .i1⟩
  | 65 => ⟨S32768x1, .f32⟩
  | 66 => ⟨S_, .f32⟩
  | 67 => ⟨S32768x1, .f32⟩
  | 68 => ⟨S32768x1, .f32⟩
  | 69 => ⟨S32768x16, .f32⟩
  | 70 => ⟨S1x16, .f32⟩
  | 71 => ⟨S32768x16, .f32⟩
  | 72 => ⟨S32768x16, .f32⟩
  | 73 => ⟨S32768x4x4, .f32⟩
  | 74 => ⟨S32768x1x1, .i32⟩
  | 75 => ⟨S_, .i32⟩
  | 76 => ⟨S32768x1x1, .i32⟩
  | 77 => ⟨S32768x1x1, .i1⟩
  | 78 => ⟨S_, .i32⟩
  | 79 => ⟨S32768x1x1, .i32⟩
  | 80 => ⟨S32768x1x1, .i32⟩
  | 81 => ⟨S32768x1x1, .i32⟩
  | 82 => ⟨S1, .i32⟩
  | 83 => ⟨S_, .i32⟩
  | 84 => ⟨S32768x1x1, .i32⟩
  | 85 => ⟨S32768x1x1, .i1⟩
  | 86 => ⟨S1x1x1, .i32⟩
  | 87 => ⟨S32768x1x1, .i32⟩
  | 88 => ⟨S32768x1x1, .i1⟩
  | 89 => ⟨S32768x1x1, .i1⟩
  | 90 => ⟨S_, .i1⟩
  | 91 => ⟨S32768x1, .i1⟩
  | 92 => ⟨S32768x1x4, .f32⟩
  | 93 => ⟨S32768x1x4, .i1⟩
  | 94 => ⟨S_, .f32⟩
  | 95 => ⟨S32768x1x4, .f32⟩
  | 96 => ⟨S32768x1x4, .f32⟩
  | 97 => ⟨S32768x4, .f32⟩
  | 98 => ⟨S32768x2, .f32⟩
  | 99 => ⟨S32768x2, .i32⟩
  | 100 => ⟨S_, .f32⟩
  | 101 => ⟨S32768, .f32⟩
  | 102 => ⟨S_, .f32⟩
  | 103 => ⟨S32768, .f32⟩
  | 104 => ⟨S32768, .f32⟩
  | 105 => ⟨S32768x1, .f32⟩
  | 106 => ⟨S32768x2, .f32⟩
  | 107 => ⟨S32768x2, .f32⟩
  | 108 => ⟨S32768x2, .f32⟩
  | 109 => ⟨S_, .f32⟩
  | 110 => ⟨S32768, .f32⟩
  | 111 => ⟨S32768x1, .f32⟩
  | 112 => ⟨S32768x2, .f32⟩
  | 113 => ⟨S32768x2, .f32⟩
  | 114 => ⟨S32768x2, .f32⟩
  | 115 => ⟨S32768x2, .f32⟩
  | 116 => ⟨S32768x1, .i32⟩
  | 117 => ⟨S_, .i32⟩
  | 118 => ⟨S32768x1, .i32⟩
  | 119 => ⟨S32768x1, .i32⟩
  | 120 => ⟨S32768x2, .i32⟩
  | 121 => ⟨S32768x2, .i32⟩
  | 122 => ⟨S32768x2x1, .i32⟩
  | 123 => ⟨S1x1x16, .i32⟩
  | 124 => ⟨S32768x2x16, .i32⟩
  | 125 => ⟨S32768x2x16, .i32⟩
  | 126 => ⟨S32768x2x16, .i1⟩
  | 127 => ⟨S32768x2x16, .f32⟩
  | _ => ⟨S32768x1024, .f32⟩

abbrev hbmTy0_1 (i : Nat) : BufTy := match i % 128 with
  | 0 => ⟨S32768x2x1, .f32⟩
  | 1 => ⟨S32768x2x16, .f32⟩
  | 2 => ⟨S32768x2x16, .f32⟩
  | 3 => ⟨S_, .f32⟩
  | 4 => ⟨S32768x16, .f32⟩
  | 5 => ⟨S32768x16x256, .f32⟩
  | 6 => ⟨S32768x16x256, .f32⟩
  | 7 => ⟨S32768x16x256, .f32⟩
  | 8 => ⟨S32768x16x256, .f32⟩
  | 9 => ⟨S_, .f32⟩
  | 10 => ⟨S32768x16x256, .f32⟩
  | 11 => ⟨S32768x16x256, .f32⟩
  | 12 => ⟨S_, .f32⟩
  | 13 => ⟨S32768x16x256, .f32⟩
  | 14 => ⟨S32768x16x256, .f32⟩
  | 15 => ⟨S32768x16x256, .f32⟩
  | 16 => ⟨S32768x16x256, .f32⟩
  | 17 => ⟨S32768x16x1, .f32⟩
  | 18 => ⟨S32768x16x256, .f32⟩
  | 19 => ⟨S32768x16x256, .f32⟩
  | 20 => ⟨S32768x4096, .f32⟩
  | 21 => ⟨S4096x1024, .f32⟩
  | 22 => ⟨S32768x1024, .f32⟩
  | 23 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_values : Ref sig .tc := ⟨.hbm, 43, rfl⟩
abbrev main_indices : Ref sig .tc := ⟨.hbm, 44, rfl⟩
abbrev main_v28 : Ref sig .tc := ⟨.hbm, 45, rfl⟩
abbrev main_v29 : Ref sig .tc := ⟨.hbm, 46, rfl⟩
abbrev main_call0_c : Ref sig .tc := ⟨.hbm, 47, rfl⟩
abbrev main_call0_v0 : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_c_2 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_3 : Ref sig .tc := ⟨.hbm, 63, rfl⟩
abbrev main_call0_v12 : Ref sig .tc := ⟨.hbm, 64, rfl⟩
abbrev main_call0_v13 : Ref sig .tc := ⟨.hbm, 65, rfl⟩
abbrev main_call0_cst : Ref sig .tc := ⟨.hbm, 66, rfl⟩
abbrev main_call0_v14 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_c_1 : Ref sig .tc := ⟨.hbm, 82, rfl⟩
abbrev main_call1_c_2 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_c_3 : Ref sig .tc := ⟨.hbm, 90, rfl⟩
abbrev main_call1_v11 : Ref sig .tc := ⟨.hbm, 91, rfl⟩
abbrev main_call1_v12 : Ref sig .tc := ⟨.hbm, 92, rfl⟩
abbrev main_call1_v13 : Ref sig .tc := ⟨.hbm, 93, rfl⟩
abbrev main_call1_cst : Ref sig .tc := ⟨.hbm, 94, rfl⟩
abbrev main_call1_v14 : Ref sig .tc := ⟨.hbm, 95, rfl⟩
abbrev main_v37 : Ref sig .tc := ⟨.hbm, 96, rfl⟩
abbrev main_v38 : Ref sig .tc := ⟨.hbm, 97, rfl⟩
abbrev main_values_5 : Ref sig .tc := ⟨.hbm, 98, rfl⟩
abbrev main_indices_6 : Ref sig .tc := ⟨.hbm, 99, rfl⟩
abbrev main_cst_7 : Ref sig .tc := ⟨.hbm, 100, rfl⟩
abbrev main_v39 : Ref sig .tc := ⟨.hbm, 101, rfl⟩
abbrev main_cst_8 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_cst_9 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_c : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_cst_10 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_call3_v0 : Ref sig .tc := ⟨.hbm, 135, rfl⟩
abbrev main_call3_v1 : Ref sig .tc := ⟨.hbm, 136, rfl⟩
abbrev main_call3_cst : Ref sig .tc := ⟨.hbm, 137, rfl⟩
abbrev main_call3_v2 : Ref sig .tc := ⟨.hbm, 138, rfl⟩
abbrev main_call3_v3 : Ref sig .tc := ⟨.hbm, 139, rfl⟩
abbrev main_call3_cst_0 : Ref sig .tc := ⟨.hbm, 140, rfl⟩
abbrev main_call3_v4 : Ref sig .tc := ⟨.hbm, 141, rfl⟩
abbrev main_call3_v5 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩

abbrev nD : Nat := 1
abbrev τ : Topo := Topo.v7x

variable {F : FTy → Type} [FloatOps F]
-- ==== Proof.KernelIdeal.Val.lean ====
module
/- What one grid point of the last mixture-of-experts call leaves in its output block, as a function of the blocks it reads: the
   body's payloads composed in program order, one definition per value that crosses a part of the body.
   `b_base g` is the block before the overflow branch of group `g`, `b_over g` what that branch stores. -/
public import proofs.«01_k».proof.Proof.Gen.KernelIdeal.Skeleton
public import Idealize.ShloMosaic.Lib.Pipeline.FrameBody
@[expose] public section
set_option maxRecDepth 16384
noncomputable section
namespace Cert.KernelIdeal.Hand
open Idealize.ShloMosaic Idealize.ShloMosaic.TcCoe
open Cert.KernelIdeal.Gen
variable {F : FTy → Type} [FloatOps F]

def b_v21 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S512x1024 .bf16 :=
  k0_pay27 (View.ld x0 (Rect.unit (s := S512x1024) ![0, 0] S512x1024.size inb_S512x1024_S512x1024_0_0)) (View.ld x1 (Rect.unit (s := S512x1024) ![0, 0] S512x1024.size inb_S512x1024_S512x1024_0_0)) (View.ld x2 (Rect.unit (s := S1024x1024) ![0, 0] S1024x1024.size inb_S1024x1024_S1024x1024_0_0)) (View.ld x3 (Rect.unit (s := S1x1024) ![0, 0] S1x1024.size inb_S1x1024_S1x1024_0_0))

def b_v31 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S32x512 .f32 :=
  k0_pay28 (View.ld x0 (Rect.unit (s := S512x1024) ![0, 0] S512x1024.size inb_S512x1024_S512x1024_0_0)) (View.ld x1 (Rect.unit (s := S512x1024) ![0, 0] S512x1024.size inb_S512x1024_S512x1024_0_0)) (View.ld x2 (Rect.unit (s := S1024x1024) ![0, 0] S1024x1024.size inb_S1024x1024_S1024x1024_0_0)) (View.ld x3 (Rect.unit (s := S1x1024) ![0, 0] S1x1024.size inb_S1x1024_S1x1024_0_0)) (View.ld x4 (Rect.unit (s := S64x1024) ![0, 0] S64x1024.size inb_S64x1024_S64x1024_0_0)) (View.ld x5 (Rect.unit (s := S32x1) ![0, 0] S32x1.size inb_S32x1_S32x1_0_0))

def b_v33 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S32x512 .f32 :=
  k0_pay29 (F := F)

def b_v35 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : IVec S32x512 1 :=
  k0_pay30 (F := F)

def b_v36 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S32x512 .f32 :=
  k0_pay31 (F := F)

def b_v45 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S1x512 .f32 :=
  k0_pay34 (b_v31 x0 x1 x2 x3 x4 x5 x6 x7 x8 x9 x10) (b_v33 x0 x1 x2 x3 x4 x5 x6 x7 x8 x9 x10) (b_v35 x0 x1 x2 x3 x4 x5 x6 x7 x8 x9 x10) (b_v36 x0 x1 x2 x3 x4 x5 x6 x7 x8 x9 x10)

def b_v54 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S1x512 .f32 :=
  k0_pay35 (b_v31 x0 x1 x2 x3 x4 x5 x6 x7 x8 x9 x10) (b_v35 x0 x1 x2 x3 x4 x5 x6 x7 x8 x9 x10) (b_v36 x0 x1 x2 x3 x4 x5 x6 x7 x8 x9 x10)

def b_v69 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S1x512 .f32 :=
  k0_pay37 (b_v31 x0 x1 x2 x3 x4 x5 x6 x7 x8 x9 x10) (b_v33 x0 x1 x2 x3 x4 x5 x6 x7 x8 x9 x10) (b_v35 x0 x1 x2 x3 x4 x5 x6 x7 x8 x9 x10) (b_v36 x0 x1 x2 x3 x4 x5 x6 x7 x8 x9 x10)

def b_v75 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S1x512 .f32 :=
  k0_pay38 (b_v31 x0 x1 x2 x3 x4 x5 x6 x7 x8 x9 x10) (b_v33 x0 x1 x2 x3 x4 x5 x6 x7 x8 x9 x10) (b_v35 x0 x1 x2 x3 x4 x5 x6 x7 x8 x9 x10) (b_v36 x0 x1 x2 x3 x4 x5 x6 x7 x8 x9 x10)

def b_v79 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S32x512 .f32 :=
  k0_pay39 (b_v31 x0 x1 x2 x3 x4 x5 x6 x7 x8 x9 x10) (b_v33 x0 x1 x2 x3 x4 x5 x6 x7 x8 x9 x10) (b_v35 x0 x1 x2 x3 x4 x5 x6 x7 x8 x9 x10) (b_v36 x0 x1 x2 x3 x4 x5 x6 x7 x8 x9 x10)

def b_v81 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S1x512 .f32 :=
  k0_pay40 (b_v31 x0 x1 x2 x3 x4 x5 x6 x7 x8 x9 x10) (b_v33 x0 x1 x2 x3 x4 x5 x6 x7 x8 x9 x10) (b_v35 x0 x1 x2 x3 x4 x5 x6 x7 x8 x9 x10) (b_v36 x0 x1 x2 x3 x4 x5 x6 x7 x8 x9 x10)

def b_v107 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S32x512 .f32 :=
  k0_pay41 (b_v33 x0 x1 x2 x3 x4 x5 x6 x7 x8 x9 x10) (b_v54 x0 x1 x2 x3 x4 x5 x6 x7 x8 x9 x10) (b_v69 x0 x1 x2 x3 x4 x5 x6 x7 x8 x9 x10) (b_v75 x0 x1 x2 x3 x4 x5 x6 x7 x8 x9 x10) (b_v79 x0 x1 x2 x3 x4 x5 x6 x7 x8 x9 x10) (b_v81 x0 x1 x2 x3 x4 x5 x6 x7 x8 x9 x10)

def b_v114 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S16x512 .f32 :=
  k0_pay42 (b_v45 x0 x1 x2 x3 x4 x5 x6 x7 x8 x9 x10)

def b_v123 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : IVec S1x512 1 :=
  k0_pay44 (b_v45 x0 x1 x2 x3 x4 x5 x6 x7 x8 x9 x10) (View.ld x6 (Rect.unit (s := S512x512) ![0, 0] S512x512.size inb_S512x512_S512x512_0_0))

def b_v126 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S1x512 .f32 :=
  k0_pay45 (b_v45 x0 x1 x2 x3 x4 x5 x6 x7 x8 x9 x10) (View.ld x6 (Rect.unit (s := S512x512) ![0, 0] S512x512.size inb_S512x512_S512x512_0_0))

def b_v127 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S1x512 .f32 :=
  k0_pay46 (F := F)

def b_v136 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S640x512 .bf16 :=
  k0_pay47 (b_v123 x0 x1 x2 x3 x4 x5 x6 x7 x8 x9 x10) (b_v126 x0 x1 x2 x3 x4 x5 x6 x7 x8 x9 x10) (b_v127 x0 x1 x2 x3 x4 x5 x6 x7 x8 x9 x10)

def b_v145 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S640x1024 .bf16 :=
  k0_pay48 (b_v21 x0 x1 x2 x3 x4 x5 x6 x7 x8 x9 x10) (b_v123 x0 x1 x2 x3 x4 x5 x6 x7 x8 x9 x10) (b_v126 x0 x1 x2 x3 x4 x5 x6 x7 x8 x9 x10) (b_v127 x0 x1 x2 x3 x4 x5 x6 x7 x8 x9 x10)

def b_v150 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S640x128 .f32 :=
  k0_pay49 (b_v107 x0 x1 x2 x3 x4 x5 x6 x7 x8 x9 x10) (b_v123 x0 x1 x2 x3 x4 x5 x6 x7 x8 x9 x10) (b_v126 x0 x1 x2 x3 x4 x5 x6 x7 x8 x9 x10) (b_v127 x0 x1 x2 x3 x4 x5 x6 x7 x8 x9 x10)

def b_v170 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .bf16 :=
  k0_pay50 (b_v21 x0 x1 x2 x3 x4 x5 x6 x7 x8 x9 x10) (b_v107 x0 x1 x2 x3 x4 x5 x6 x7 x8 x9 x10) (b_v123 x0 x1 x2 x3 x4 x5 x6 x7 x8 x9 x10) (b_v126 x0 x1 x2 x3 x4 x5 x6 x7 x8 x9 x10) (b_v127 x0 x1 x2 x3 x4 x5 x6 x7 x8 x9 x10) (View.ld x7 (Rect.unit (s := S16x1024x256) ![0, 0, 0] S1x1024x256.size inb_S16x1024x256_S1x1024x256_0_0_0)) (View.ld x8 (Rect.unit (s := S16x1024x256) ![0, 0, 0] S1x1024x256.size inb_S16x1024x256_S1x1024x256_0_0_0))

def b_v171 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .bf16 :=
  k0_pay51 (b_v21 x0 x1 x2 x3 x4 x5 x6 x7 x8 x9 x10) (b_v123 x0 x1 x2 x3 x4 x5 x6 x7 x8 x9 x10) (b_v126 x0 x1 x2 x3 x4 x5 x6 x7 x8 x9 x10) (b_v127 x0 x1 x2 x3 x4 x5 x6 x7 x8 x9 x10)

def b_v197 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay53 (b_v145 x0 x1 x2 x3 x4 x5 x6 x7 x8 x9 x10) (View.ld x7 (Rect.unit (s := S16x1024x256) ![2, 0, 0] S1x1024x256.size inb_S16x1024x256_S1x1024x256_2_0_0))

def b_v200 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay54 (b_v145 x0 x1 x2 x3 x4 x5 x6 x7 x8 x9 x10) (View.ld x8 (Rect.unit (s := S16x1024x256) ![2, 0, 0] S1x1024x256.size inb_S16x1024x256_S1x1024x256_2_0_0))

def b_v204 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .f32 :=
  k0_pay55 (b_v150 x0 x1 x2 x3 x4 x5 x6 x7 x8 x9 x10) (b_v170 x0 x1 x2 x3 x4 x5 x6 x7 x8 x9 x10) (b_v171 x0 x1 x2 x3 x4 x5 x6 x7 x8 x9 x10) (View.ld x7 (Rect.unit (s := S16x1024x256) ![1, 0, 0] S1x1024x256.size inb_S16x1024x256_S1x1024x256_1_0_0)) (View.ld x8 (Rect.unit (s := S16x1024x256) ![1, 0, 0] S1x1024x256.size inb_S16x1024x256_S1x1024x256_1_0_0)) (View.ld x9 (Rect.unit (s := S16x256x1024) ![0, 0, 0] S1x256x1024.size inb_S16x256x1024_S1x256x1024_0_0_0)) (View.ld x9 (Rect.unit (s := S16x256x1024) ![1, 0, 0] S1x256x1024.size inb_S16x256x1024_S1x256x1024_1_0_0))

def b_v228 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .f32 :=
  k0_pay56 (b_v150 x0 x1 x2 x3 x4 x5 x6 x7 x8 x9 x10) (b_v197 x0 x1 x2 x3 x4 x5 x6 x7 x8 x9 x10) (b_v200 x0 x1 x2 x3 x4 x5 x6 x7 x8 x9 x10) (b_v204 x0 x1 x2 x3 x4 x5 x6 x7 x8 x9 x10) (View.ld x9 (Rect.unit (s := S16x256x1024) ![2, 0, 0] S1x256x1024.size inb_S16x256x1024_S1x256x1024_2_0_0))

def b_v241 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .bf16 :=
  k0_pay57 (b_v145 x0 x1 x2 x3 x4 x5 x6 x7 x8 x9 x10) (b_v150 x0 x1 x2 x3 x4 x5 x6 x7 x8 x9 x10) (View.ld x7 (Rect.unit (s := S16x1024x256) ![3, 0, 0] S1x1024x256.size inb_S16x1024x256_S1x1024x256_3_0_0)) (View.ld x8 (Rect.unit (s := S16x1024x256) ![3, 0, 0] S1x1024x256.size inb_S16x1024x256_S1x1024x256_3_0_0))

def b_v242 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .bf16 :=
  k0_pay58 (b_v145 x0 x1 x2 x3 x4 x5 x6 x7 x8 x9 x10)

def b_v243 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : Vec F S1x1024x256 .bf16 :=
  (View.ld x7 (Rect.unit (s := S16x1024x256) ![4, 0, 0] S1x1024x256.size inb_S16x1024x256_S1x1024x256_4_0_0))

def b_v252 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .f32 :=
  k0_pay59 (b_v228 x0 x1 x2 x3 x4 x5 x6 x7 x8 x9 x10) (b_v241 x0 x1 x2 x3 x4 x5 x6 x7 x8 x9 x10) (View.ld x9 (Rect.unit (s := S16x256x1024) ![3, 0, 0] S1x256x1024.size inb_S16x256x1024_S1x256x1024_3_0_0))

def b_v269 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay61 (b_v145 x0 x1 x2 x3 x4 x5 x6 x7 x8 x9 x10) (View.ld x7 (Rect.unit (s := S16x1024x256) ![5, 0, 0] S1x1024x256.size inb_S16x1024x256_S1x1024x256_5_0_0))

def b_v272 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay62 (b_v145 x0 x1 x2 x3 x4 x5 x6 x7 x8 x9 x10) (View.ld x8 (Rect.unit (s := S16x1024x256) ![5, 0, 0] S1x1024x256.size inb_S16x1024x256_S1x1024x256_5_0_0))

def b_v275 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .f32 :=
  k0_pay63 (b_v150 x0 x1 x2 x3 x4 x5 x6 x7 x8 x9 x10) (b_v242 x0 x1 x2 x3 x4 x5 x6 x7 x8 x9 x10) (b_v243 x0 x1 x2 x3 x4 x5 x6 x7 x8 x9 x10) (View.ld x8 (Rect.unit (s := S16x1024x256) ![4, 0, 0] S1x1024x256.size inb_S16x1024x256_S1x1024x256_4_0_0)) (View.ld x9 (Rect.unit (s := S16x256x1024) ![4, 0, 0] S1x256x1024.size inb_S16x256x1024_S1x256x1024_4_0_0))

def b_v276 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1 .f32 :=
  k0_pay64 (b_v150 x0 x1 x2 x3 x4 x5 x6 x7 x8 x9 x10)

def b_v278 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay65 (b_v145 x0 x1 x2 x3 x4 x5 x6 x7 x8 x9 x10) (View.ld x7 (Rect.unit (s := S16x1024x256) ![5, 0, 0] S1x1024x256.size inb_S16x1024x256_S1x1024x256_5_0_0))

def b_v299 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .f32 :=
  k0_pay66 (b_v269 x0 x1 x2 x3 x4 x5 x6 x7 x8 x9 x10) (b_v272 x0 x1 x2 x3 x4 x5 x6 x7 x8 x9 x10) (b_v275 x0 x1 x2 x3 x4 x5 x6 x7 x8 x9 x10) (b_v276 x0 x1 x2 x3 x4 x5 x6 x7 x8 x9 x10) (b_v278 x0 x1 x2 x3 x4 x5 x6 x7 x8 x9 x10) (View.ld x9 (Rect.unit (s := S16x256x1024) ![5, 0, 0] S1x256x1024.size inb_S16x256x1024_S1x256x1024_5_0_0))

def b_v312 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .bf16 :=
  k0_pay67 (b_v145 x0 x1 x2 x3 x4 x5 x6 x7 x8 x9 x10) (b_v150 x0 x1 x2 x3 x4 x5 x6 x7 x8 x9 x10) (View.ld x7 (Rect.unit (s := S16x1024x256) ![6, 0, 0] S1x1024x256.size inb_S16x1024x256_S1x1024x256_6_0_0)) (View.ld x8 (Rect.unit (s := S16x1024x256) ![6, 0, 0] S1x1024x256.size inb_S16x1024x256_S1x1024x256_6_0_0))

def b_v313 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .bf16 :=
  k0_pay68 (b_v145 x0 x1 x2 x3 x4 x5 x6 x7 x8 x9 x10)

def b_v316 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay69 (b_v145 x0 x1 x2 x3 x4 x5 x6 x7 x8 x9 x10) (View.ld x7 (Rect.unit (s := S16x1024x256) ![7, 0, 0] S1x1024x256.size inb_S16x1024x256_S1x1024x256_7_0_0))

def b_v340 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay71 (b_v145 x0 x1 x2 x3 x4 x5 x6 x7 x8 x9 x10) (View.ld x7 (Rect.unit (s := S16x1024x256) ![8, 0, 0] S1x1024x256.size inb_S16x1024x256_S1x1024x256_8_0_0))

def b_v343 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay72 (b_v145 x0 x1 x2 x3 x4 x5 x6 x7 x8 x9 x10) (View.ld x8 (Rect.unit (s := S16x1024x256) ![8, 0, 0] S1x1024x256.size inb_S16x1024x256_S1x1024x256_8_0_0))

def b_v347 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .f32 :=
  k0_pay73 (b_v150 x0 x1 x2 x3 x4 x5 x6 x7 x8 x9 x10) (b_v299 x0 x1 x2 x3 x4 x5 x6 x7 x8 x9 x10) (b_v312 x0 x1 x2 x3 x4 x5 x6 x7 x8 x9 x10) (b_v313 x0 x1 x2 x3 x4 x5 x6 x7 x8 x9 x10) (b_v316 x0 x1 x2 x3 x4 x5 x6 x7 x8 x9 x10) (View.ld x8 (Rect.unit (s := S16x1024x256) ![7, 0, 0] S1x1024x256.size inb_S16x1024x256_S1x1024x256_7_0_0)) (View.ld x9 (Rect.unit (s := S16x256x1024) ![6, 0, 0] S1x256x1024.size inb_S16x256x1024_S1x256x1024_6_0_0)) (View.ld x9 (Rect.unit (s := S16x256x1024) ![7, 0, 0] S1x256x1024.size inb_S16x256x1024_S1x256x1024_7_0_0))

def b_v348 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1 .f32 :=
  k0_pay74 (b_v150 x0 x1 x2 x3 x4 x5 x6 x7 x8 x9 x10)

def b_v351 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay75 (b_v145 x0 x1 x2 x3 x4 x5 x6 x7 x8 x9 x10) (View.ld x7 (Rect.unit (s := S16x1024x256) ![8, 0, 0] S1x1024x256.size inb_S16x1024x256_S1x1024x256_8_0_0))

def b_v352 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay76 (F := F)

def b_v370 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .f32 :=
  k0_pay77 (b_v340 x0 x1 x2 x3 x4 x5 x6 x7 x8 x9 x10) (b_v343 x0 x1 x2 x3 x4 x5 x6 x7 x8 x9 x10) (b_v348 x0 x1 x2 x3 x4 x5 x6 x7 x8 x9 x10) (b_v351 x0 x1 x2 x3 x4 x5 x6 x7 x8 x9 x10) (b_v352 x0 x1 x2 x3 x4 x5 x6 x7 x8 x9 x10) (View.ld x9 (Rect.unit (s := S16x256x1024) ![8, 0, 0] S1x256x1024.size inb_S16x256x1024_S1x256x1024_8_0_0))

def b_v383 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .bf16 :=
  k0_pay78 (b_v145 x0 x1 x2 x3 x4 x5 x6 x7 x8 x9 x10) (b_v150 x0 x1 x2 x3 x4 x5 x6 x7 x8 x9 x10) (View.ld x7 (Rect.unit (s := S16x1024x256) ![9, 0, 0] S1x1024x256.size inb_S16x1024x256_S1x1024x256_9_0_0)) (View.ld x8 (Rect.unit (s := S16x1024x256) ![9, 0, 0] S1x1024x256.size inb_S16x1024x256_S1x1024x256_9_0_0))

def b_v384 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .bf16 :=
  k0_pay79 (b_v145 x0 x1 x2 x3 x4 x5 x6 x7 x8 x9 x10)

def b_v387 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay80 (b_v145 x0 x1 x2 x3 x4 x5 x6 x7 x8 x9 x10) (View.ld x7 (Rect.unit (s := S16x1024x256) ![10, 0, 0] S1x1024x256.size inb_S16x1024x256_S1x1024x256_10_0_0))

def b_v389 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S1024x256 .bf16 :=
  k0_pay81 (View.ld x8 (Rect.unit (s := S16x1024x256) ![10, 0, 0] S1x1024x256.size inb_S16x1024x256_S1x1024x256_10_0_0))

def b_v411 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay83 (b_v145 x0 x1 x2 x3 x4 x5 x6 x7 x8 x9 x10) (View.ld x7 (Rect.unit (s := S16x1024x256) ![11, 0, 0] S1x1024x256.size inb_S16x1024x256_S1x1024x256_11_0_0))

def b_v414 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay84 (b_v145 x0 x1 x2 x3 x4 x5 x6 x7 x8 x9 x10) (View.ld x8 (Rect.unit (s := S16x1024x256) ![11, 0, 0] S1x1024x256.size inb_S16x1024x256_S1x1024x256_11_0_0))

def b_v418 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .f32 :=
  k0_pay85 (b_v150 x0 x1 x2 x3 x4 x5 x6 x7 x8 x9 x10) (b_v370 x0 x1 x2 x3 x4 x5 x6 x7 x8 x9 x10) (b_v383 x0 x1 x2 x3 x4 x5 x6 x7 x8 x9 x10) (b_v384 x0 x1 x2 x3 x4 x5 x6 x7 x8 x9 x10) (b_v387 x0 x1 x2 x3 x4 x5 x6 x7 x8 x9 x10) (b_v389 x0 x1 x2 x3 x4 x5 x6 x7 x8 x9 x10) (View.ld x9 (Rect.unit (s := S16x256x1024) ![9, 0, 0] S1x256x1024.size inb_S16x256x1024_S1x256x1024_9_0_0)) (View.ld x9 (Rect.unit (s := S16x256x1024) ![10, 0, 0] S1x256x1024.size inb_S16x256x1024_S1x256x1024_10_0_0))

def b_v419 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1 .f32 :=
  k0_pay86 (b_v150 x0 x1 x2 x3 x4 x5 x6 x7 x8 x9 x10)

def b_v426 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay87 (b_v145 x0 x1 x2 x3 x4 x5 x6 x7 x8 x9 x10) (View.ld x7 (Rect.unit (s := S16x1024x256) ![11, 0, 0] S1x1024x256.size inb_S16x1024x256_S1x1024x256_11_0_0))

def b_v442 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .f32 :=
  k0_pay88 (b_v411 x0 x1 x2 x3 x4 x5 x6 x7 x8 x9 x10) (b_v414 x0 x1 x2 x3 x4 x5 x6 x7 x8 x9 x10) (b_v418 x0 x1 x2 x3 x4 x5 x6 x7 x8 x9 x10) (b_v419 x0 x1 x2 x3 x4 x5 x6 x7 x8 x9 x10) (b_v426 x0 x1 x2 x3 x4 x5 x6 x7 x8 x9 x10) (View.ld x9 (Rect.unit (s := S16x256x1024) ![11, 0, 0] S1x256x1024.size inb_S16x256x1024_S1x256x1024_11_0_0))

def b_v455 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .bf16 :=
  k0_pay89 (b_v145 x0 x1 x2 x3 x4 x5 x6 x7 x8 x9 x10) (b_v150 x0 x1 x2 x3 x4 x5 x6 x7 x8 x9 x10) (View.ld x7 (Rect.unit (s := S16x1024x256) ![12, 0, 0] S1x1024x256.size inb_S16x1024x256_S1x1024x256_12_0_0)) (View.ld x8 (Rect.unit (s := S16x1024x256) ![12, 0, 0] S1x1024x256.size inb_S16x1024x256_S1x1024x256_12_0_0))

def b_v459 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay91 (b_v145 x0 x1 x2 x3 x4 x5 x6 x7 x8 x9 x10) (View.ld x7 (Rect.unit (s := S16x1024x256) ![13, 0, 0] S1x1024x256.size inb_S16x1024x256_S1x1024x256_13_0_0))

def b_v462 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay92 (b_v145 x0 x1 x2 x3 x4 x5 x6 x7 x8 x9 x10) (View.ld x8 (Rect.unit (s := S16x1024x256) ![13, 0, 0] S1x1024x256.size inb_S16x1024x256_S1x1024x256_13_0_0))

def b_v489 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x1024 .f32 :=
  k0_pay93 (b_v150 x0 x1 x2 x3 x4 x5 x6 x7 x8 x9 x10) (b_v455 x0 x1 x2 x3 x4 x5 x6 x7 x8 x9 x10) (b_v459 x0 x1 x2 x3 x4 x5 x6 x7 x8 x9 x10) (b_v462 x0 x1 x2 x3 x4 x5 x6 x7 x8 x9 x10) (View.ld x9 (Rect.unit (s := S16x256x1024) ![12, 0, 0] S1x256x1024.size inb_S16x256x1024_S1x256x1024_12_0_0)) (View.ld x9 (Rect.unit (s := S16x256x1024) ![13, 0, 0] S1x256x1024.size inb_S16x256x1024_S1x256x1024_13_0_0))

def b_v501 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S160x256 .f32 :=
  k0_pay94 (b_v145 x0 x1 x2 x3 x4 x5 x6 x7 x8 x9 x10) (b_v150 x0 x1 x2 x3 x4 x5 x6 x7 x8 x9 x10) (View.ld x7 (Rect.unit (s := S16x1024x256) ![14, 0, 0] S1x1024x256.size inb_S16x1024x256_S1x1024x256_14_0_0)) (View.ld x8 (Rect.unit (s := S16x1024x256) ![14, 0, 0] S1x1024x256.size inb_S16x1024x256_S1x1024x256_14_0_0))

def b_v539 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S512x1024 .f32 :=
  (k0_pay95 (b_v136 x0 x1 x2 x3 x4 x5 x6 x7 x8 x9 x10) (b_v145 x0 x1 x2 x3 x4 x5 x6 x7 x8 x9 x10) (b_v150 x0 x1 x2 x3 x4 x5 x6 x7 x8 x9 x10) (b_v252 x0 x1 x2 x3 x4 x5 x6 x7 x8 x9 x10) (b_v347 x0 x1 x2 x3 x4 x5 x6 x7 x8 x9 x10) (b_v442 x0 x1 x2 x3 x4 x5 x6 x7 x8 x9 x10) (b_v489 x0 x1 x2 x3 x4 x5 x6 x7 x8 x9 x10) (b_v501 x0 x1 x2 x3 x4 x5 x6 x7 x8 x9 x10) (View.ld x7 (Rect.unit (s := S16x1024x256) ![15, 0, 0] S1x1024x256.size inb_S16x1024x256_S1x1024x256_15_0_0)) (View.ld x8 (Rect.unit (s := S16x1024x256) ![15, 0, 0] S1x1024x256.size inb_S16x1024x256_S1x1024x256_15_0_0)) (View.ld x9 (Rect.unit (s := S16x256x1024) ![14, 0, 0] S1x256x1024.size inb_S16x256x1024_S1x256x1024_14_0_0)) (View.ld x9 (Rect.unit (s := S16x256x1024) ![15, 0, 0] S1x256x1024.size inb_S16x256x1024_S1x256x1024_15_0_0)) ((k0_pay26 (View.ld x0 (Rect.unit (s := S512x1024) ![0, 0] S512x1024.size inb_S512x1024_S512x1024_0_0)) (View.ld x1 (Rect.unit (s := S512x1024) ![0, 0] S512x1024.size inb_S512x1024_S512x1024_0_0)) (View.ld x2 (Rect.unit (s := S1024x1024) ![0, 0] S1024x1024.size inb_S1024x1024_S1024x1024_0_0)))))

def b_base0 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : Vec F S512x1024 .f32 :=
  (b_v539 x0 x1 x2 x3 x4 x5 x6 x7 x8 x9 x10)

def b_v596_g0 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x128 .f32 :=
  k0_pay2 (b_v107 x0 x1 x2 x3 x4 x5 x6 x7 x8 x9 x10) (b_v123 x0 x1 x2 x3 x4 x5 x6 x7 x8 x9 x10)

def b_v598_g0 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x1024 .f32 :=
  k0_pay3 b

def b_v620_g0 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x1024 .f32 :=
  k0_pay4 (b_v21 x0 x1 x2 x3 x4 x5 x6 x7 x8 x9 x10) (b_v107 x0 x1 x2 x3 x4 x5 x6 x7 x8 x9 x10) (b_v123 x0 x1 x2 x3 x4 x5 x6 x7 x8 x9 x10) (View.ld x7 (Rect.unit (s := S16x1024x256) ![0, 0, 0] S1x1024x256.size inb_S16x1024x256_S1x1024x256_0_0_0)) (View.ld x8 (Rect.unit (s := S16x1024x256) ![0, 0, 0] S1x1024x256.size inb_S16x1024x256_S1x1024x256_0_0_0)) (View.ld x9 (Rect.unit (s := S16x256x1024) ![0, 0, 0] S1x256x1024.size inb_S16x256x1024_S1x256x1024_0_0_0))

def b_v623_g0 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x256 .f32 :=
  k0_pay5 (b_v21 x0 x1 x2 x3 x4 x5 x6 x7 x8 x9 x10) (View.ld x7 (Rect.unit (s := S16x1024x256) ![1, 0, 0] S1x1024x256.size inb_S16x1024x256_S1x1024x256_1_0_0))

def b_v643_g0 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x1024 .f32 :=
  k0_pay6 (b_v21 x0 x1 x2 x3 x4 x5 x6 x7 x8 x9 x10) (b_v596_g0 x0 x1 x2 x3 x4 x5 x6 x7 x8 x9 x10 b) (b_v620_g0 x0 x1 x2 x3 x4 x5 x6 x7 x8 x9 x10 b) (b_v623_g0 x0 x1 x2 x3 x4 x5 x6 x7 x8 x9 x10 b) (View.ld x8 (Rect.unit (s := S16x1024x256) ![1, 0, 0] S1x1024x256.size inb_S16x1024x256_S1x1024x256_1_0_0)) (View.ld x9 (Rect.unit (s := S16x256x1024) ![1, 0, 0] S1x256x1024.size inb_S16x256x1024_S1x256x1024_1_0_0))

def b_v662_g0 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x256 .bf16 :=
  k0_pay7 (b_v21 x0 x1 x2 x3 x4 x5 x6 x7 x8 x9 x10) (b_v596_g0 x0 x1 x2 x3 x4 x5 x6 x7 x8 x9 x10 b) (View.ld x7 (Rect.unit (s := S16x1024x256) ![2, 0, 0] S1x1024x256.size inb_S16x1024x256_S1x1024x256_2_0_0)) (View.ld x8 (Rect.unit (s := S16x1024x256) ![2, 0, 0] S1x1024x256.size inb_S16x1024x256_S1x1024x256_2_0_0))

def b_over0 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : Vec F S512x1024 .f32 :=
  ((k0_pay97 (b_v21 x0 x1 x2 x3 x4 x5 x6 x7 x8 x9 x10) (b_v596_g0 x0 x1 x2 x3 x4 x5 x6 x7 x8 x9 x10 b) (b_v598_g0 x0 x1 x2 x3 x4 x5 x6 x7 x8 x9 x10 b) (b_v643_g0 x0 x1 x2 x3 x4 x5 x6 x7 x8 x9 x10 b) (b_v662_g0 x0 x1 x2 x3 x4 x5 x6 x7 x8 x9 x10 b) (View.ld x9 (Rect.unit (s := S16x256x1024) ![2, 0, 0] S1x256x1024.size inb_S16x256x1024_S1x256x1024_2_0_0)) (View.ld x7 (Rect.unit (s := S16x1024x256) ![3, 0, 0] S1x1024x256.size inb_S16x1024x256_S1x1024x256_3_0_0)) (View.ld x8 (Rect.unit (s := S16x1024x256) ![3, 0, 0] S1x1024x256.size inb_S16x1024x256_S1x1024x256_3_0_0)) (View.ld x9 (Rect.unit (s := S16x256x1024) ![3, 0, 0] S1x256x1024.size inb_S16x256x1024_S1x256x1024_3_0_0))))

def b_base1 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : Vec F S512x1024 .f32 :=
  (if (Scalar.cmpi .ne (Scalar.extui (Scalar.cmpf .ogt (k0_pay96 (b_v114 x0 x1 x2 x3 x4 x5 x6 x7 x8 x9 x10)) (Scalar.ofBits .f32 0x43200000#32))) 0#32) = 1#1 then b_over0 x0 x1 x2 x3 x4 x5 x6 x7 x8 x9 x10 (b_base0 x0 x1 x2 x3 x4 x5 x6 x7 x8 x9 x10) else b_base0 x0 x1 x2 x3 x4 x5 x6 x7 x8 x9 x10)

def b_v596_g1 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x128 .f32 :=
  k0_pay8 (b_v107 x0 x1 x2 x3 x4 x5 x6 x7 x8 x9 x10) (b_v123 x0 x1 x2 x3 x4 x5 x6 x7 x8 x9 x10)

def b_v598_g1 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x1024 .f32 :=
  k0_pay9 b

def b_v620_g1 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x1024 .f32 :=
  k0_pay10 (b_v21 x0 x1 x2 x3 x4 x5 x6 x7 x8 x9 x10) (b_v107 x0 x1 x2 x3 x4 x5 x6 x7 x8 x9 x10) (b_v123 x0 x1 x2 x3 x4 x5 x6 x7 x8 x9 x10) (View.ld x7 (Rect.unit (s := S16x1024x256) ![4, 0, 0] S1x1024x256.size inb_S16x1024x256_S1x1024x256_4_0_0)) (View.ld x8 (Rect.unit (s := S16x1024x256) ![4, 0, 0] S1x1024x256.size inb_S16x1024x256_S1x1024x256_4_0_0)) (View.ld x9 (Rect.unit (s := S16x256x1024) ![4, 0, 0] S1x256x1024.size inb_S16x256x1024_S1x256x1024_4_0_0))

def b_v623_g1 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x256 .f32 :=
  k0_pay11 (b_v21 x0 x1 x2 x3 x4 x5 x6 x7 x8 x9 x10) (View.ld x7 (Rect.unit (s := S16x1024x256) ![5, 0, 0] S1x1024x256.size inb_S16x1024x256_S1x1024x256_5_0_0))

def b_v643_g1 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x1024 .f32 :=
  k0_pay12 (b_v21 x0 x1 x2 x3 x4 x5 x6 x7 x8 x9 x10) (b_v596_g1 x0 x1 x2 x3 x4 x5 x6 x7 x8 x9 x10 b) (b_v620_g1 x0 x1 x2 x3 x4 x5 x6 x7 x8 x9 x10 b) (b_v623_g1 x0 x1 x2 x3 x4 x5 x6 x7 x8 x9 x10 b) (View.ld x8 (Rect.unit (s := S16x1024x256) ![5, 0, 0] S1x1024x256.size inb_S16x1024x256_S1x1024x256_5_0_0)) (View.ld x9 (Rect.unit (s := S16x256x1024) ![5, 0, 0] S1x256x1024.size inb_S16x256x1024_S1x256x1024_5_0_0))

def b_v662_g1 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x256 .bf16 :=
  k0_pay13 (b_v21 x0 x1 x2 x3 x4 x5 x6 x7 x8 x9 x10) (b_v596_g1 x0 x1 x2 x3 x4 x5 x6 x7 x8 x9 x10 b) (View.ld x7 (Rect.unit (s := S16x1024x256) ![6, 0, 0] S1x1024x256.size inb_S16x1024x256_S1x1024x256_6_0_0)) (View.ld x8 (Rect.unit (s := S16x1024x256) ![6, 0, 0] S1x1024x256.size inb_S16x1024x256_S1x1024x256_6_0_0))

def b_over1 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : Vec F S512x1024 .f32 :=
  ((k0_pay99 (b_v21 x0 x1 x2 x3 x4 x5 x6 x7 x8 x9 x10) (b_v596_g1 x0 x1 x2 x3 x4 x5 x6 x7 x8 x9 x10 b) (b_v598_g1 x0 x1 x2 x3 x4 x5 x6 x7 x8 x9 x10 b) (b_v643_g1 x0 x1 x2 x3 x4 x5 x6 x7 x8 x9 x10 b) (b_v662_g1 x0 x1 x2 x3 x4 x5 x6 x7 x8 x9 x10 b) (View.ld x9 (Rect.unit (s := S16x256x1024) ![6, 0, 0] S1x256x1024.size inb_S16x256x1024_S1x256x1024_6_0_0)) (View.ld x7 (Rect.unit (s := S16x1024x256) ![7, 0, 0] S1x1024x256.size inb_S16x1024x256_S1x1024x256_7_0_0)) (View.ld x8 (Rect.unit (s := S16x1024x256) ![7, 0, 0] S1x1024x256.size inb_S16x1024x256_S1x1024x256_7_0_0)) (View.ld x9 (Rect.unit (s := S16x256x1024) ![7, 0, 0] S1x256x1024.size inb_S16x256x1024_S1x256x1024_7_0_0))))

def b_base2 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : Vec F S512x1024 .f32 :=
  (if (Scalar.cmpi .ne (Scalar.extui (Scalar.cmpf .ogt (k0_pay98 (b_v114 x0 x1 x2 x3 x4 x5 x6 x7 x8 x9 x10)) (Scalar.ofBits .f32 0x43200000#32))) 0#32) = 1#1 then b_over1 x0 x1 x2 x3 x4 x5 x6 x7 x8 x9 x10 (b_base1 x0 x1 x2 x3 x4 x5 x6 x7 x8 x9 x10) else b_base1 x0 x1 x2 x3 x4 x5 x6 x7 x8 x9 x10)

def b_v596_g2 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x128 .f32 :=
  k0_pay14 (b_v107 x0 x1 x2 x3 x4 x5 x6 x7 x8 x9 x10) (b_v123 x0 x1 x2 x3 x4 x5 x6 x7 x8 x9 x10)

def b_v598_g2 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x1024 .f32 :=
  k0_pay15 b

def b_v620_g2 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x1024 .f32 :=
  k0_pay16 (b_v21 x0 x1 x2 x3 x4 x5 x6 x7 x8 x9 x10) (b_v107 x0 x1 x2 x3 x4 x5 x6 x7 x8 x9 x10) (b_v123 x0 x1 x2 x3 x4 x5 x6 x7 x8 x9 x10) (View.ld x7 (Rect.unit (s := S16x1024x256) ![8, 0, 0] S1x1024x256.size inb_S16x1024x256_S1x1024x256_8_0_0)) (View.ld x8 (Rect.unit (s := S16x1024x256) ![8, 0, 0] S1x1024x256.size inb_S16x1024x256_S1x1024x256_8_0_0)) (View.ld x9 (Rect.unit (s := S16x256x1024) ![8, 0, 0] S1x256x1024.size inb_S16x256x1024_S1x256x1024_8_0_0))

def b_v623_g2 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x256 .f32 :=
  k0_pay17 (b_v21 x0 x1 x2 x3 x4 x5 x6 x7 x8 x9 x10) (View.ld x7 (Rect.unit (s := S16x1024x256) ![9, 0, 0] S1x1024x256.size inb_S16x1024x256_S1x1024x256_9_0_0))

def b_v643_g2 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x1024 .f32 :=
  k0_pay18 (b_v21 x0 x1 x2 x3 x4 x5 x6 x7 x8 x9 x10) (b_v596_g2 x0 x1 x2 x3 x4 x5 x6 x7 x8 x9 x10 b) (b_v620_g2 x0 x1 x2 x3 x4 x5 x6 x7 x8 x9 x10 b) (b_v623_g2 x0 x1 x2 x3 x4 x5 x6 x7 x8 x9 x10 b) (View.ld x8 (Rect.unit (s := S16x1024x256) ![9, 0, 0] S1x1024x256.size inb_S16x1024x256_S1x1024x256_9_0_0)) (View.ld x9 (Rect.unit (s := S16x256x1024) ![9, 0, 0] S1x256x1024.size inb_S16x256x1024_S1x256x1024_9_0_0))

def b_v662_g2 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x256 .bf16 :=
  k0_pay19 (b_v21 x0 x1 x2 x3 x4 x5 x6 x7 x8 x9 x10) (b_v596_g2 x0 x1 x2 x3 x4 x5 x6 x7 x8 x9 x10 b) (View.ld x7 (Rect.unit (s := S16x1024x256) ![10, 0, 0] S1x1024x256.size inb_S16x1024x256_S1x1024x256_10_0_0)) (View.ld x8 (Rect.unit (s := S16x1024x256) ![10, 0, 0] S1x1024x256.size inb_S16x1024x256_S1x1024x256_10_0_0))

def b_over2 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : Vec F S512x1024 .f32 :=
  ((k0_pay101 (b_v21 x0 x1 x2 x3 x4 x5 x6 x7 x8 x9 x10) (b_v596_g2 x0 x1 x2 x3 x4 x5 x6 x7 x8 x9 x10 b) (b_v598_g2 x0 x1 x2 x3 x4 x5 x6 x7 x8 x9 x10 b) (b_v643_g2 x0 x1 x2 x3 x4 x5 x6 x7 x8 x9 x10 b) (b_v662_g2 x0 x1 x2 x3 x4 x5 x6 x7 x8 x9 x10 b) (View.ld x9 (Rect.unit (s := S16x256x1024) ![10, 0, 0] S1x256x1024.size inb_S16x256x1024_S1x256x1024_10_0_0)) (View.ld x7 (Rect.unit (s := S16x1024x256) ![11, 0, 0] S1x1024x256.size inb_S16x1024x256_S1x1024x256_11_0_0)) (View.ld x8 (Rect.unit (s := S16x1024x256) ![11, 0, 0] S1x1024x256.size inb_S16x1024x256_S1x1024x256_11_0_0)) (View.ld x9 (Rect.unit (s := S16x256x1024) ![11, 0, 0] S1x256x1024.size inb_S16x256x1024_S1x256x1024_11_0_0))))

def b_base3 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : Vec F S512x1024 .f32 :=
  (if (Scalar.cmpi .ne (Scalar.extui (Scalar.cmpf .ogt (k0_pay100 (b_v114 x0 x1 x2 x3 x4 x5 x6 x7 x8 x9 x10)) (Scalar.ofBits .f32 0x43200000#32))) 0#32) = 1#1 then b_over2 x0 x1 x2 x3 x4 x5 x6 x7 x8 x9 x10 (b_base2 x0 x1 x2 x3 x4 x5 x6 x7 x8 x9 x10) else b_base2 x0 x1 x2 x3 x4 x5 x6 x7 x8 x9 x10)

def b_v596_g3 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x128 .f32 :=
  k0_pay20 (b_v107 x0 x1 x2 x3 x4 x5 x6 x7 x8 x9 x10) (b_v123 x0 x1 x2 x3 x4 x5 x6 x7 x8 x9 x10)

def b_v598_g3 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x1024 .f32 :=
  k0_pay21 b

def b_v620_g3 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x1024 .f32 :=
  k0_pay22 (b_v21 x0 x1 x2 x3 x4 x5 x6 x7 x8 x9 x10) (b_v107 x0 x1 x2 x3 x4 x5 x6 x7 x8 x9 x10) (b_v123 x0 x1 x2 x3 x4 x5 x6 x7 x8 x9 x10) (View.ld x7 (Rect.unit (s := S16x1024x256) ![12, 0, 0] S1x1024x256.size inb_S16x1024x256_S1x1024x256_12_0_0)) (View.ld x8 (Rect.unit (s := S16x1024x256) ![12, 0, 0] S1x1024x256.size inb_S16x1024x256_S1x1024x256_12_0_0)) (View.ld x9 (Rect.unit (s := S16x256x1024) ![12, 0, 0] S1x256x1024.size inb_S16x256x1024_S1x256x1024_12_0_0))

def b_v623_g3 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x256 .f32 :=
  k0_pay23 (b_v21 x0 x1 x2 x3 x4 x5 x6 x7 x8 x9 x10) (View.ld x7 (Rect.unit (s := S16x1024x256) ![13, 0, 0] S1x1024x256.size inb_S16x1024x256_S1x1024x256_13_0_0))

def b_v643_g3 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x1024 .f32 :=
  k0_pay24 (b_v21 x0 x1 x2 x3 x4 x5 x6 x7 x8 x9 x10) (b_v596_g3 x0 x1 x2 x3 x4 x5 x6 x7 x8 x9 x10 b) (b_v620_g3 x0 x1 x2 x3 x4 x5 x6 x7 x8 x9 x10 b) (b_v623_g3 x0 x1 x2 x3 x4 x5 x6 x7 x8 x9 x10 b) (View.ld x8 (Rect.unit (s := S16x1024x256) ![13, 0, 0] S1x1024x256.size inb_S16x1024x256_S1x1024x256_13_0_0)) (View.ld x9 (Rect.unit (s := S16x256x1024) ![13, 0, 0] S1x256x1024.size inb_S16x256x1024_S1x256x1024_13_0_0))

def b_v662_g3 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : FVec F S512x256 .bf16 :=
  k0_pay25 (b_v21 x0 x1 x2 x3 x4 x5 x6 x7 x8 x9 x10) (b_v596_g3 x0 x1 x2 x3 x4 x5 x6 x7 x8 x9 x10 b) (View.ld x7 (Rect.unit (s := S16x1024x256) ![14, 0, 0] S1x1024x256.size inb_S16x1024x256_S1x1024x256_14_0_0)) (View.ld x8 (Rect.unit (s := S16x1024x256) ![14, 0, 0] S1x1024x256.size inb_S16x1024x256_S1x1024x256_14_0_0))

def b_over3 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (b : Vec F S512x1024 .f32) : Vec F S512x1024 .f32 :=
  ((k0_pay103 (b_v21 x0 x1 x2 x3 x4 x5 x6 x7 x8 x9 x10) (b_v596_g3 x0 x1 x2 x3 x4 x5 x6 x7 x8 x9 x10 b) (b_v598_g3 x0 x1 x2 x3 x4 x5 x6 x7 x8 x9 x10 b) (b_v643_g3 x0 x1 x2 x3 x4 x5 x6 x7 x8 x9 x10 b) (b_v662_g3 x0 x1 x2 x3 x4 x5 x6 x7 x8 x9 x10 b) (View.ld x9 (Rect.unit (s := S16x256x1024) ![14, 0, 0] S1x256x1024.size inb_S16x256x1024_S1x256x1024_14_0_0)) (View.ld x7 (Rect.unit (s := S16x1024x256) ![15, 0, 0] S1x1024x256.size inb_S16x1024x256_S1x1024x256_15_0_0)) (View.ld x8 (Rect.unit (s := S16x1024x256) ![15, 0, 0] S1x1024x256.size inb_S16x1024x256_S1x1024x256_15_0_0)) (View.ld x9 (Rect.unit (s := S16x256x1024) ![15, 0, 0] S1x256x1024.size inb_S16x256x1024_S1x256x1024_15_0_0))))

def b_v574 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S512x1024 .f32 :=
  k0_pay104 (if (Scalar.cmpi .ne (Scalar.extui (Scalar.cmpf .ogt (k0_pay102 (b_v114 x0 x1 x2 x3 x4 x5 x6 x7 x8 x9 x10)) (Scalar.ofBits .f32 0x43200000#32))) 0#32) = 1#1 then b_over3 x0 x1 x2 x3 x4 x5 x6 x7 x8 x9 x10 (b_base3 x0 x1 x2 x3 x4 x5 x6 x7 x8 x9 x10) else b_base3 x0 x1 x2 x3 x4 x5 x6 x7 x8 x9 x10)

def b_v577 (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : FVec F S512x1 .f32 :=
  k0_pay105 (if (Scalar.cmpi .ne (Scalar.extui (Scalar.cmpf .ogt (k0_pay102 (b_v114 x0 x1 x2 x3 x4 x5 x6 x7 x8 x9 x10)) (Scalar.ofBits .f32 0x43200000#32))) 0#32) = 1#1 then b_over3 x0 x1 x2 x3 x4 x5 x6 x7 x8 x9 x10 (b_base3 x0 x1 x2 x3 x4 x5 x6 x7 x8 x9 x10) else b_base3 x0 x1 x2 x3 x4 x5 x6 x7 x8 x9 x10)

def outB (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) : Vec F S512x1024 .f32 :=
  ((k0_pay1 (b_v574 x0 x1 x2 x3 x4 x5 x6 x7 x8 x9 x10) (b_v577 x0 x1 x2 x3 x4 x5 x6 x7 x8 x9 x10) (View.ld x10 (Rect.unit (s := S1x1024) ![0, 0] S1x1024.size inb_S1x1024_S1x1024_0_0))))

end Cert.KernelIdeal.Hand
-- ==== Proof.KernelIdeal.Body.lean ====
module
/- The body of the last mixture-of-experts call at one grid point, run once at symbolic blocks: every input block is unchanged and
   the output block holds `outB` of them. -/
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import proofs.«01_k».proof.Proof.KernelIdeal.Val
public import Idealize.ShloMosaic.Lib.Pipeline.FrameBody
public import Idealize.ShloMosaic.Lib.Ring
public import Idealize.ShloMosaic.Lib.Tactic
public import Idealize.ShloMosaic.Lib.WordCmp
@[expose] public section
set_option maxRecDepth 16384

noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F]
local notation "𝕄" => MT nD τ sig Unit (Elt F) ℕ (UR sig nD τ) ℕ

/-- The output block's whole rectangle. -/
abbrev rW : Rect S512x1024 := Rect.unit (s := S512x1024) ![0, 0] S512x1024.size inb_S512x1024_S512x1024_0_0

/-- Every element of the block is in that rectangle. -/
theorem cover_rW (p : rW.shape.Idx → Elt F .f32) (L : List (View.Piece (Elt F) S512x1024 .f32)) (y : S512x1024.Idx) :
    ∃ q ∈ (⟨rW, p⟩ :: L : List (View.Piece (Elt F) S512x1024 .f32)), y ∈ q.1.set := by
  obtain ⟨q, hq, hy⟩ := View.cover_of_tiled (Val := Elt F) (e := .f32) [⟨rW, p⟩] S512x1024.size (by rfl) y
  exact ⟨q, by simp only [List.mem_cons, List.not_mem_nil, or_false] at hq; exact List.mem_cons.mpr (.inl hq), hy⟩

/-- The element of the block at a rectangle coordinate is the one with the same coordinate. -/
theorem emb_rW (y : S512x1024.Idx) : rW.emb y = y :=
  Rect.emb_eq_of_coords rW y y fun a => by
    match a with
    | ⟨0, _⟩ => exact ((Nat.zero_add _).trans (Nat.one_mul _)).symm
    | ⟨1, _⟩ => exact ((Nat.zero_add _).trans (Nat.one_mul _)).symm

/-- A whole-block store read back is what was stored. -/
theorem read_rW {κ sp} (v : View sig κ sp S512x1024 .f32) (f : v.ty.Contents (Elt F)) (p : rW.shape.Idx → Elt F .f32)
    (L : List (View.Piece (Elt F) S512x1024 .f32)) : v.read (Elt F) (v.writes (Elt F) f (⟨rW, p⟩ :: L)) = p :=
  funext fun y => View.read_writes_cons_hit v f rW p L y y (emb_rW y)

/-- A whole-block load reads the block. -/
theorem readAt_rW {κ sp} (v : View sig κ sp S512x1024 .f32) (f : v.ty.Contents (Elt F)) :
    v.readAt (Elt F) rW.toLoadRect f = v.read (Elt F) f :=
  funext fun y => congrArg (v.read (Elt F) f) (emb_rW y)

/-- A whole-block store read back by a whole-block load. -/
theorem readAt_last {κ sp} (v : View sig κ sp S512x1024 .f32) (f : v.ty.Contents (Elt F)) (p : rW.shape.Idx → Elt F .f32)
    (L : List (View.Piece (Elt F) S512x1024 .f32)) : v.readAt (Elt F) rW.toLoadRect (v.writes (Elt F) f (⟨rW, p⟩ :: L)) = p :=
  (readAt_rW v _).trans (read_rW v f p L)

/-- The same over a block of unknown contents. -/
theorem readCov_last {κ sp} (v : View sig κ sp S512x1024 .f32) (p : rW.shape.Idx → Elt F .f32)
    (L : List (View.Piece (Elt F) S512x1024 .f32)) : v.readCov (⟨rW, p⟩ :: L) rW.toLoadRect = p :=
  readAt_last v v.junk p L

/-- A whole-block load behind a guarded whole-block store. -/
theorem readAt_step {κ sp} (v : View sig κ sp S512x1024 .f32) (f g : v.ty.Contents (Elt F)) (p : rW.shape.Idx → Elt F .f32)
    (L : List (View.Piece (Elt F) S512x1024 .f32)) (cnd : Prop) [Decidable cnd] :
    v.readAt (Elt F) rW.toLoadRect (if _h : cnd then v.writes (Elt F) f (⟨rW, p⟩ :: L) else g)
      = if cnd then p else v.readAt (Elt F) rW.toLoadRect g := by
  by_cases h : cnd
  · rw [dif_pos h, if_pos h]; exact readAt_last v f p L
  · rw [dif_neg h, if_neg h]

/-- The block behind the first guarded store, which stores what `o` makes of the block. -/
def cont1 {κ sp} (v : View sig κ sp S512x1024 .f32) (f : v.ty.Contents (Elt F)) (p : rW.shape.Idx → Elt F .f32)
    (L : List (View.Piece (Elt F) S512x1024 .f32)) (cnd : Prop) [Decidable cnd] (o : Vec F S512x1024 .f32 → Vec F S512x1024 .f32) :
    v.ty.Contents (Elt F) :=
  if _h : cnd then v.writes (Elt F) f (⟨rW, o (v.readCov (⟨rW, p⟩ :: L) rW.toLoadRect)⟩ :: ⟨rW, p⟩ :: L)
  else v.writes (Elt F) f (⟨rW, p⟩ :: L)

/-- The block behind a further guarded store. -/
def contS {κ sp} (v : View sig κ sp S512x1024 .f32) (g : v.ty.Contents (Elt F)) (cnd : Prop) [Decidable cnd]
    (o : Vec F S512x1024 .f32 → Vec F S512x1024 .f32) : v.ty.Contents (Elt F) :=
  if _h : cnd then v.writes (Elt F) g [⟨rW, o (v.readAt (Elt F) rW.toLoadRect g)⟩] else g

theorem cont1_eq {κ sp} (v : View sig κ sp S512x1024 .f32) (f : v.ty.Contents (Elt F)) (p : rW.shape.Idx → Elt F .f32)
    (L : List (View.Piece (Elt F) S512x1024 .f32)) (cnd : Prop) [Decidable cnd] (o : Vec F S512x1024 .f32 → Vec F S512x1024 .f32) :
    v.readAt (Elt F) rW.toLoadRect (cont1 v f p L cnd o) = if cnd then o p else p := by
  unfold cont1
  rw [readAt_step, readAt_last, readCov_last]

theorem contS_eq {κ sp} (v : View sig κ sp S512x1024 .f32) (g : v.ty.Contents (Elt F)) (cnd : Prop) [Decidable cnd]
    (o : Vec F S512x1024 .f32 → Vec F S512x1024 .f32) (b : Vec F S512x1024 .f32) (hb : v.readAt (Elt F) rW.toLoadRect g = b) :
    v.readAt (Elt F) rW.toLoadRect (contS v g cnd o) = if cnd then o b else b := by
  unfold contS
  rw [readAt_step, hb]

/-- What the four guarded stores leave in the block. -/
theorem chain {κ sp} (v : View sig κ sp S512x1024 .f32) (f : v.ty.Contents (Elt F)) (p : rW.shape.Idx → Elt F .f32)
    (L : List (View.Piece (Elt F) S512x1024 .f32)) (c1 c2 c3 c4 : Prop) [Decidable c1] [Decidable c2] [Decidable c3] [Decidable c4]
    (o1 o2 o3 o4 : Vec F S512x1024 .f32 → Vec F S512x1024 .f32) :
    v.readAt (Elt F) rW.toLoadRect (contS v (contS v (contS v (cont1 v f p L c1 o1) c2 o2) c3 o3) c4 o4)
      = (fun b : Vec F S512x1024 .f32 => if c4 then o4 b else b) ((fun b : Vec F S512x1024 .f32 => if c3 then o3 b else b)
          ((fun b : Vec F S512x1024 .f32 => if c2 then o2 b else b) (if c1 then o1 p else p))) :=
  contS_eq v _ c4 o4 _ (contS_eq v _ c3 o3 _ (contS_eq v _ c2 o2 _ (cont1_eq v f p L c1 o1)))

set_option maxHeartbeats 400000 in

/-- The body's triple: the inputs as they were, the output block at `outB`. -/
theorem sound_body_at (c : Dev nD) (E : Set ℕ) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S64x1024 .bf16) (harg5 : arg5.IsWhole) (arg6 : Memref sig .tc .vmem S32x1 .f32) (harg6 : arg6.IsWhole) (arg7 : Memref sig .tc .vmem S512x512 .bf16) (harg7 : arg7.IsWhole) (arg8 : Memref sig .tc .vmem S16x1024x256 .bf16) (harg8 : arg8.IsWhole) (arg9 : Memref sig .tc .vmem S16x1024x256 .bf16) (harg9 : arg9.IsWhole) (arg10 : Memref sig .tc .vmem S16x256x1024 .bf16) (harg10 : arg10.IsWhole) (arg11 : Memref sig .tc .vmem S1x1024 .f32) (harg11 : arg11.IsWhole) (arg12 : Memref sig .tc .vmem S512x1024 .f32) (harg12 : arg12.IsWhole)
    (x0 : Vec F S512x1024 .f32) (x1 : Vec F S512x1024 .bf16) (x2 : Vec F S1024x1024 .bf16) (x3 : Vec F S1x1024 .f32) (x4 : Vec F S64x1024 .bf16) (x5 : Vec F S32x1 .f32) (x6 : Vec F S512x512 .bf16) (x7 : Vec F S16x1024x256 .bf16) (x8 : Vec F S16x1024x256 .bf16) (x9 : Vec F S16x256x1024 .bf16) (x10 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outB x0 x1 x2 x3 x4 x5 x6 x7 x8 x9 x10)) -∗ K ⟨⟩))
      ⊢ wp frame (wpE (defs₀ (F := F)) Variants.none c none) E (cc0_moe_final i arg1 harg1 arg2 harg2 arg3 harg3 arg4 harg4 arg5 harg5 arg6 harg6 arg7 harg7 arg8 harg8 arg9 harg9 arg10 harg10 arg11 harg11 arg12 harg12) K := by
  simp only [cc0_moe_final_eq_skeleton]; unfold cc0_moe_final_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  refine (read_rW _ _ _ _).trans ?_
  have e0 : sound_body_at.sl.r_55 c arg1 arg2 arg3 arg4 arg5 arg6 arg7 arg8 arg9 arg10 arg12 f0 f1 f2 f3 f4 f5 f6 f7 f8 f9 = b_base0 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7) (View.read (Elt F) arg9.view f8) (View.read (Elt F) arg10.view f9) (View.read (Elt F) arg11.view f10) := by
    delta sound_body_at.sl.r_55 sound_body_at.sl.v536 sound_body_at.sl.H11_1
    rw [readCov_last]
    rfl
  have e4 := chain arg12.view f11 (sound_body_at.sl.r_55 c arg1 arg2 arg3 arg4 arg5 arg6 arg7 arg8 arg9 arg10 arg12 f0 f1 f2 f3 f4 f5 f6 f7 f8 f9) (sound_body_at.sl.H11_1 c arg1 arg2 arg3 f0 f1 f2)
      (sound_body_at.sl.v548 c arg1 arg2 arg3 arg4 arg5 arg6 f0 f1 f2 f3 f4 f5 = 1#1)
      (sound_body_at.sl.v556 c arg1 arg2 arg3 arg4 arg5 arg6 f0 f1 f2 f3 f4 f5 = 1#1)
      (sound_body_at.sl.v564 c arg1 arg2 arg3 arg4 arg5 arg6 f0 f1 f2 f3 f4 f5 = 1#1)
      (sound_body_at.sl.v572 c arg1 arg2 arg3 arg4 arg5 arg6 f0 f1 f2 f3 f4 f5 = 1#1)
      (b_over0 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7) (View.read (Elt F) arg9.view f8) (View.read (Elt F) arg10.view f9) (View.read (Elt F) arg11.view f10))
      (b_over1 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7) (View.read (Elt F) arg9.view f8) (View.read (Elt F) arg10.view f9) (View.read (Elt F) arg11.view f10))
      (b_over2 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7) (View.read (Elt F) arg9.view f8) (View.read (Elt F) arg10.view f9) (View.read (Elt F) arg11.view f10))
      (b_over3 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7) (View.read (Elt F) arg9.view f8) (View.read (Elt F) arg10.view f9) (View.read (Elt F) arg11.view f10))
  have e5 : sound_body_at.sl.v573 c arg1 arg2 arg3 arg4 arg5 arg6 arg7 arg8 arg9 arg10 arg12 f0 f1 f2 f3 f4 f5 f6 f7 f8 f9 f11 = _ := e4
  delta sound_body_at.sl.r_80 sound_body_at.sl.r_81
  rw [e5, e0]
  rfl

end Cert.KernelIdeal.Hand
-- ==== Proof.KernelIdeal.Run.lean ====
module
/- The frame of the call: each grid point leaves its input blocks as they were and puts `outB` of them into the result block, so the
   whole program runs without fault, keeps its arguments, and ends with every semaphore at zero. -/
public import proofs.«01_k».proof.Proof.KernelIdeal.Body
public import Idealize.ShloMosaic.Lib.Claim
@[expose] public section
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- What the call's windows hold: the inputs their blocks, the result `outB` of the inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outB (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin 12) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outB (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- What the point starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What the point ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- One grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_body_at c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) : defs₀ (F := F) .tc cfg0.body (cfg0.bodyArgs t (cfg0.slots t)) = bodyAt0 t := by
  unfold defs₀
  rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The program runs to the call's post-condition with all semaphores at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) (s₀ m ρ) (fun r => ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame: no fault, the arguments unchanged, the semaphores at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
    ∧ r.2.sem = fun _ => 0) :=
  θ_run_and (unchanged m ρ) ((θ_run defs _ _).mono (fun _ h => h.2) (run_main_quiescent m ρ))

end Cert.KernelIdeal.Hand
-- ==== Proof.Kernel2Ideal.Val.lean ====
module
/- What one grid point of the plain mixture-of-experts call leaves in its output block, as a function of the blocks it reads: the
   body's payloads composed in program order, one definition per value that crosses a part of the body.
   `b_base g` is the block before the overflow branch of group `g`, `b_over g` what that branch stores. -/
public import proofs.«01_k».proof.Proof.Gen.Kernel2Ideal.Skeleton
public import Idealize.ShloMosaic.Lib.Pipeline.FrameBody
@[expose] public section
set_option maxRecDepth 16384
noncomputable section
namespace Cert.Kernel2Ideal.Hand
open Idealize.ShloMosaic Idealize.ShloMosaic.TcCoe
open Cert.Kernel2Ideal.Gen
variable {F : FTy → Type} [FloatOps F]

def b_v16 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S512x1024 .bf16 :=
  k0_pay32 (View.ld x0 (Rect.unit (s := S512x1024) ![0, 0] S512x1024.size inb_S512x1024_S512x1024_0_0)) (View.ld x1 (Rect.unit (s := S1x1024) ![0, 0] S1x1024.size inb_S1x1024_S1x1024_0_0))

def b_v26 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S32x512 .f32 :=
  k0_pay33 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S64x1024) ![0, 0] S64x1024.size inb_S64x1024_S64x1024_0_0)) (View.ld x3 (Rect.unit (s := S32x1) ![0, 0] S32x1.size inb_S32x1_S32x1_0_0))

def b_v28 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S32x512 .f32 :=
  k0_pay34 (F := F)

def b_v30 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : IVec S32x512 1 :=
  k0_pay35 (F := F)

def b_v34 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S1x512 .f32 :=
  k0_pay37 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S64x1024) ![0, 0] S64x1024.size inb_S64x1024_S64x1024_0_0)) (View.ld x3 (Rect.unit (s := S32x1) ![0, 0] S32x1.size inb_S32x1_S32x1_0_0))

def b_v38 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S32x512 .f32 :=
  k0_pay38 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S64x1024) ![0, 0] S64x1024.size inb_S64x1024_S64x1024_0_0)) (View.ld x3 (Rect.unit (s := S32x1) ![0, 0] S32x1.size inb_S32x1_S32x1_0_0))

def b_v40 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S1x512 .f32 :=
  k0_pay39 (b_v38 x0 x1 x2 x3 x4 x5 x6 x7)

def b_v49 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S1x512 .f32 :=
  k0_pay40 (b_v26 x0 x1 x2 x3 x4 x5 x6 x7) (b_v30 x0 x1 x2 x3 x4 x5 x6 x7) (b_v34 x0 x1 x2 x3 x4 x5 x6 x7)

def b_v70 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S1x512 .f32 :=
  k0_pay43 (b_v26 x0 x1 x2 x3 x4 x5 x6 x7) (b_v28 x0 x1 x2 x3 x4 x5 x6 x7) (b_v38 x0 x1 x2 x3 x4 x5 x6 x7)

def b_v82 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S1x512 .f32 :=
  k0_pay46 (b_v26 x0 x1 x2 x3 x4 x5 x6 x7) (b_v28 x0 x1 x2 x3 x4 x5 x6 x7) (b_v38 x0 x1 x2 x3 x4 x5 x6 x7)

def b_v84 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S1x512 .f32 :=
  k0_pay47 (b_v26 x0 x1 x2 x3 x4 x5 x6 x7) (b_v28 x0 x1 x2 x3 x4 x5 x6 x7) (b_v38 x0 x1 x2 x3 x4 x5 x6 x7)

def b_v102 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S32x512 .f32 :=
  k0_pay48 (b_v28 x0 x1 x2 x3 x4 x5 x6 x7) (b_v49 x0 x1 x2 x3 x4 x5 x6 x7) (b_v70 x0 x1 x2 x3 x4 x5 x6 x7) (b_v82 x0 x1 x2 x3 x4 x5 x6 x7) (b_v84 x0 x1 x2 x3 x4 x5 x6 x7)

def b_v109 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S16x512 .f32 :=
  k0_pay49 (b_v40 x0 x1 x2 x3 x4 x5 x6 x7)

def b_v118 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : IVec S1x512 1 :=
  k0_pay51 (b_v40 x0 x1 x2 x3 x4 x5 x6 x7) (View.ld x4 (Rect.unit (s := S512x512) ![0, 0] S512x512.size inb_S512x512_S512x512_0_0))

def b_v130 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S640x512 .f32 :=
  k0_pay52 (b_v40 x0 x1 x2 x3 x4 x5 x6 x7) (View.ld x4 (Rect.unit (s := S512x512) ![0, 0] S512x512.size inb_S512x512_S512x512_0_0))

def b_v131 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S640x512 .bf16 :=
  k0_pay53 (b_v130 x0 x1 x2 x3 x4 x5 x6 x7)

def b_v140 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S640x1024 .bf16 :=
  k0_pay54 (b_v16 x0 x1 x2 x3 x4 x5 x6 x7) (b_v130 x0 x1 x2 x3 x4 x5 x6 x7)

def b_v145 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S640x128 .f32 :=
  k0_pay55 (b_v102 x0 x1 x2 x3 x4 x5 x6 x7) (b_v130 x0 x1 x2 x3 x4 x5 x6 x7)

def b_v165 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .bf16 :=
  k0_pay56 (b_v16 x0 x1 x2 x3 x4 x5 x6 x7) (b_v102 x0 x1 x2 x3 x4 x5 x6 x7) (b_v130 x0 x1 x2 x3 x4 x5 x6 x7) (View.ld x5 (Rect.unit (s := S16x1024x256) ![0, 0, 0] S1x1024x256.size inb_S16x1024x256_S1x1024x256_0_0_0)) (View.ld x6 (Rect.unit (s := S16x1024x256) ![0, 0, 0] S1x1024x256.size inb_S16x1024x256_S1x1024x256_0_0_0))

def b_v166 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .bf16 :=
  k0_pay57 (b_v16 x0 x1 x2 x3 x4 x5 x6 x7) (b_v130 x0 x1 x2 x3 x4 x5 x6 x7)

def b_v169 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay58 (b_v16 x0 x1 x2 x3 x4 x5 x6 x7) (b_v130 x0 x1 x2 x3 x4 x5 x6 x7) (View.ld x5 (Rect.unit (s := S16x1024x256) ![1, 0, 0] S1x1024x256.size inb_S16x1024x256_S1x1024x256_1_0_0))

def b_v192 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay60 (b_v140 x0 x1 x2 x3 x4 x5 x6 x7) (View.ld x5 (Rect.unit (s := S16x1024x256) ![2, 0, 0] S1x1024x256.size inb_S16x1024x256_S1x1024x256_2_0_0))

def b_v195 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay61 (b_v140 x0 x1 x2 x3 x4 x5 x6 x7) (View.ld x6 (Rect.unit (s := S16x1024x256) ![2, 0, 0] S1x1024x256.size inb_S16x1024x256_S1x1024x256_2_0_0))

def b_v199 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .f32 :=
  k0_pay62 (b_v145 x0 x1 x2 x3 x4 x5 x6 x7) (b_v165 x0 x1 x2 x3 x4 x5 x6 x7) (b_v166 x0 x1 x2 x3 x4 x5 x6 x7) (b_v169 x0 x1 x2 x3 x4 x5 x6 x7) (View.ld x6 (Rect.unit (s := S16x1024x256) ![1, 0, 0] S1x1024x256.size inb_S16x1024x256_S1x1024x256_1_0_0)) (View.ld x7 (Rect.unit (s := S16x256x1024) ![0, 0, 0] S1x256x1024.size inb_S16x256x1024_S1x256x1024_0_0_0)) (View.ld x7 (Rect.unit (s := S16x256x1024) ![1, 0, 0] S1x256x1024.size inb_S16x256x1024_S1x256x1024_1_0_0))

def b_v200 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1 .f32 :=
  k0_pay63 (b_v145 x0 x1 x2 x3 x4 x5 x6 x7)

def b_v205 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay64 (b_v140 x0 x1 x2 x3 x4 x5 x6 x7) (View.ld x5 (Rect.unit (s := S16x1024x256) ![2, 0, 0] S1x1024x256.size inb_S16x1024x256_S1x1024x256_2_0_0))

def b_v206 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay65 (F := F)

def b_v223 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .f32 :=
  k0_pay66 (b_v192 x0 x1 x2 x3 x4 x5 x6 x7) (b_v195 x0 x1 x2 x3 x4 x5 x6 x7) (b_v199 x0 x1 x2 x3 x4 x5 x6 x7) (b_v200 x0 x1 x2 x3 x4 x5 x6 x7) (b_v205 x0 x1 x2 x3 x4 x5 x6 x7) (b_v206 x0 x1 x2 x3 x4 x5 x6 x7) (View.ld x7 (Rect.unit (s := S16x256x1024) ![2, 0, 0] S1x256x1024.size inb_S16x256x1024_S1x256x1024_2_0_0))

def b_v236 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .bf16 :=
  k0_pay67 (b_v140 x0 x1 x2 x3 x4 x5 x6 x7) (b_v145 x0 x1 x2 x3 x4 x5 x6 x7) (View.ld x5 (Rect.unit (s := S16x1024x256) ![3, 0, 0] S1x1024x256.size inb_S16x1024x256_S1x1024x256_3_0_0)) (View.ld x6 (Rect.unit (s := S16x1024x256) ![3, 0, 0] S1x1024x256.size inb_S16x1024x256_S1x1024x256_3_0_0))

def b_v240 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay69 (b_v140 x0 x1 x2 x3 x4 x5 x6 x7) (View.ld x5 (Rect.unit (s := S16x1024x256) ![4, 0, 0] S1x1024x256.size inb_S16x1024x256_S1x1024x256_4_0_0))

def b_v243 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay70 (b_v140 x0 x1 x2 x3 x4 x5 x6 x7) (View.ld x6 (Rect.unit (s := S16x1024x256) ![4, 0, 0] S1x1024x256.size inb_S16x1024x256_S1x1024x256_4_0_0))

def b_v247 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .f32 :=
  k0_pay71 (b_v223 x0 x1 x2 x3 x4 x5 x6 x7) (b_v236 x0 x1 x2 x3 x4 x5 x6 x7) (View.ld x7 (Rect.unit (s := S16x256x1024) ![3, 0, 0] S1x256x1024.size inb_S16x256x1024_S1x256x1024_3_0_0))

def b_v270 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .f32 :=
  k0_pay72 (b_v145 x0 x1 x2 x3 x4 x5 x6 x7) (b_v240 x0 x1 x2 x3 x4 x5 x6 x7) (b_v243 x0 x1 x2 x3 x4 x5 x6 x7) (View.ld x7 (Rect.unit (s := S16x256x1024) ![4, 0, 0] S1x256x1024.size inb_S16x256x1024_S1x256x1024_4_0_0))

def b_v280 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay73 (b_v140 x0 x1 x2 x3 x4 x5 x6 x7) (View.ld x5 (Rect.unit (s := S16x1024x256) ![5, 0, 0] S1x1024x256.size inb_S16x1024x256_S1x1024x256_5_0_0)) (View.ld x6 (Rect.unit (s := S16x1024x256) ![5, 0, 0] S1x1024x256.size inb_S16x1024x256_S1x1024x256_5_0_0))

def b_v281 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay74 (b_v145 x0 x1 x2 x3 x4 x5 x6 x7)

def b_v294 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .f32 :=
  k0_pay75 (b_v270 x0 x1 x2 x3 x4 x5 x6 x7) (b_v280 x0 x1 x2 x3 x4 x5 x6 x7) (b_v281 x0 x1 x2 x3 x4 x5 x6 x7) (View.ld x7 (Rect.unit (s := S16x256x1024) ![5, 0, 0] S1x256x1024.size inb_S16x256x1024_S1x256x1024_5_0_0))

def b_v307 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .bf16 :=
  k0_pay76 (b_v140 x0 x1 x2 x3 x4 x5 x6 x7) (b_v145 x0 x1 x2 x3 x4 x5 x6 x7) (View.ld x5 (Rect.unit (s := S16x1024x256) ![6, 0, 0] S1x1024x256.size inb_S16x1024x256_S1x1024x256_6_0_0)) (View.ld x6 (Rect.unit (s := S16x1024x256) ![6, 0, 0] S1x1024x256.size inb_S16x1024x256_S1x1024x256_6_0_0))

def b_v311 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay78 (b_v140 x0 x1 x2 x3 x4 x5 x6 x7) (View.ld x5 (Rect.unit (s := S16x1024x256) ![7, 0, 0] S1x1024x256.size inb_S16x1024x256_S1x1024x256_7_0_0))

def b_v314 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay79 (b_v140 x0 x1 x2 x3 x4 x5 x6 x7) (View.ld x6 (Rect.unit (s := S16x1024x256) ![7, 0, 0] S1x1024x256.size inb_S16x1024x256_S1x1024x256_7_0_0))

def b_v315 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : Vec F S1x256x1024 .bf16 :=
  (View.ld x7 (Rect.unit (s := S16x256x1024) ![6, 0, 0] S1x256x1024.size inb_S16x256x1024_S1x256x1024_6_0_0))

def b_v342 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .f32 :=
  k0_pay80 (b_v145 x0 x1 x2 x3 x4 x5 x6 x7) (b_v294 x0 x1 x2 x3 x4 x5 x6 x7) (b_v307 x0 x1 x2 x3 x4 x5 x6 x7) (b_v311 x0 x1 x2 x3 x4 x5 x6 x7) (b_v314 x0 x1 x2 x3 x4 x5 x6 x7) (b_v315 x0 x1 x2 x3 x4 x5 x6 x7) (View.ld x7 (Rect.unit (s := S16x256x1024) ![7, 0, 0] S1x256x1024.size inb_S16x256x1024_S1x256x1024_7_0_0))

def b_v355 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .bf16 :=
  k0_pay81 (b_v140 x0 x1 x2 x3 x4 x5 x6 x7) (b_v145 x0 x1 x2 x3 x4 x5 x6 x7) (View.ld x5 (Rect.unit (s := S16x1024x256) ![8, 0, 0] S1x1024x256.size inb_S16x1024x256_S1x1024x256_8_0_0)) (View.ld x6 (Rect.unit (s := S16x1024x256) ![8, 0, 0] S1x1024x256.size inb_S16x1024x256_S1x1024x256_8_0_0))

def b_v356 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .bf16 :=
  k0_pay82 (b_v140 x0 x1 x2 x3 x4 x5 x6 x7)

def b_v382 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay84 (b_v140 x0 x1 x2 x3 x4 x5 x6 x7) (View.ld x5 (Rect.unit (s := S16x1024x256) ![10, 0, 0] S1x1024x256.size inb_S16x1024x256_S1x1024x256_10_0_0))

def b_v385 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay85 (b_v140 x0 x1 x2 x3 x4 x5 x6 x7) (View.ld x6 (Rect.unit (s := S16x1024x256) ![10, 0, 0] S1x1024x256.size inb_S16x1024x256_S1x1024x256_10_0_0))

def b_v389 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .f32 :=
  k0_pay86 (b_v145 x0 x1 x2 x3 x4 x5 x6 x7) (b_v355 x0 x1 x2 x3 x4 x5 x6 x7) (b_v356 x0 x1 x2 x3 x4 x5 x6 x7) (View.ld x5 (Rect.unit (s := S16x1024x256) ![9, 0, 0] S1x1024x256.size inb_S16x1024x256_S1x1024x256_9_0_0)) (View.ld x6 (Rect.unit (s := S16x1024x256) ![9, 0, 0] S1x1024x256.size inb_S16x1024x256_S1x1024x256_9_0_0)) (View.ld x7 (Rect.unit (s := S16x256x1024) ![8, 0, 0] S1x256x1024.size inb_S16x256x1024_S1x256x1024_8_0_0)) (View.ld x7 (Rect.unit (s := S16x256x1024) ![9, 0, 0] S1x256x1024.size inb_S16x256x1024_S1x256x1024_9_0_0))

def b_v413 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .f32 :=
  k0_pay87 (b_v145 x0 x1 x2 x3 x4 x5 x6 x7) (b_v382 x0 x1 x2 x3 x4 x5 x6 x7) (b_v385 x0 x1 x2 x3 x4 x5 x6 x7) (b_v389 x0 x1 x2 x3 x4 x5 x6 x7) (View.ld x7 (Rect.unit (s := S16x256x1024) ![10, 0, 0] S1x256x1024.size inb_S16x256x1024_S1x256x1024_10_0_0))

def b_v426 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .bf16 :=
  k0_pay88 (b_v140 x0 x1 x2 x3 x4 x5 x6 x7) (b_v145 x0 x1 x2 x3 x4 x5 x6 x7) (View.ld x5 (Rect.unit (s := S16x1024x256) ![11, 0, 0] S1x1024x256.size inb_S16x1024x256_S1x1024x256_11_0_0)) (View.ld x6 (Rect.unit (s := S16x1024x256) ![11, 0, 0] S1x1024x256.size inb_S16x1024x256_S1x1024x256_11_0_0))

def b_v427 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .bf16 :=
  k0_pay89 (b_v140 x0 x1 x2 x3 x4 x5 x6 x7)

def b_v428 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : Vec F S1x1024x256 .bf16 :=
  (View.ld x5 (Rect.unit (s := S16x1024x256) ![12, 0, 0] S1x1024x256.size inb_S16x1024x256_S1x1024x256_12_0_0))

def b_v437 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .f32 :=
  k0_pay90 (b_v413 x0 x1 x2 x3 x4 x5 x6 x7) (b_v426 x0 x1 x2 x3 x4 x5 x6 x7) (View.ld x7 (Rect.unit (s := S16x256x1024) ![11, 0, 0] S1x256x1024.size inb_S16x256x1024_S1x256x1024_11_0_0))

def b_v454 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay92 (b_v140 x0 x1 x2 x3 x4 x5 x6 x7) (View.ld x5 (Rect.unit (s := S16x1024x256) ![13, 0, 0] S1x1024x256.size inb_S16x1024x256_S1x1024x256_13_0_0))

def b_v457 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay93 (b_v140 x0 x1 x2 x3 x4 x5 x6 x7) (View.ld x6 (Rect.unit (s := S16x1024x256) ![13, 0, 0] S1x1024x256.size inb_S16x1024x256_S1x1024x256_13_0_0))

def b_v460 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .f32 :=
  k0_pay94 (b_v145 x0 x1 x2 x3 x4 x5 x6 x7) (b_v427 x0 x1 x2 x3 x4 x5 x6 x7) (b_v428 x0 x1 x2 x3 x4 x5 x6 x7) (View.ld x6 (Rect.unit (s := S16x1024x256) ![12, 0, 0] S1x1024x256.size inb_S16x1024x256_S1x1024x256_12_0_0)) (View.ld x7 (Rect.unit (s := S16x256x1024) ![12, 0, 0] S1x256x1024.size inb_S16x256x1024_S1x256x1024_12_0_0))

def b_v461 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1 .f32 :=
  k0_pay95 (b_v145 x0 x1 x2 x3 x4 x5 x6 x7)

def b_v463 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay96 (b_v140 x0 x1 x2 x3 x4 x5 x6 x7) (View.ld x5 (Rect.unit (s := S16x1024x256) ![13, 0, 0] S1x1024x256.size inb_S16x1024x256_S1x1024x256_13_0_0))

def b_v484 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .f32 :=
  k0_pay97 (b_v454 x0 x1 x2 x3 x4 x5 x6 x7) (b_v457 x0 x1 x2 x3 x4 x5 x6 x7) (b_v460 x0 x1 x2 x3 x4 x5 x6 x7) (b_v461 x0 x1 x2 x3 x4 x5 x6 x7) (b_v463 x0 x1 x2 x3 x4 x5 x6 x7) (View.ld x7 (Rect.unit (s := S16x256x1024) ![13, 0, 0] S1x256x1024.size inb_S16x256x1024_S1x256x1024_13_0_0))

def b_v497 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .bf16 :=
  k0_pay98 (b_v140 x0 x1 x2 x3 x4 x5 x6 x7) (b_v145 x0 x1 x2 x3 x4 x5 x6 x7) (View.ld x5 (Rect.unit (s := S16x1024x256) ![14, 0, 0] S1x1024x256.size inb_S16x1024x256_S1x1024x256_14_0_0)) (View.ld x6 (Rect.unit (s := S16x1024x256) ![14, 0, 0] S1x1024x256.size inb_S16x1024x256_S1x1024x256_14_0_0))

def b_v498 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x1024 .bf16 :=
  k0_pay99 (b_v140 x0 x1 x2 x3 x4 x5 x6 x7)

def b_v501 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : FVec F S160x256 .f32 :=
  k0_pay100 (b_v140 x0 x1 x2 x3 x4 x5 x6 x7) (View.ld x5 (Rect.unit (s := S16x1024x256) ![15, 0, 0] S1x1024x256.size inb_S16x1024x256_S1x1024x256_15_0_0))

def b_v540 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : F .f32 :=
  (k0_pay102 (b_v109 x0 x1 x2 x3 x4 x5 x6 x7))

def b_base0 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : Vec F S512x1024 .f32 :=
  ((k0_pay101 (b_v131 x0 x1 x2 x3 x4 x5 x6 x7) (b_v145 x0 x1 x2 x3 x4 x5 x6 x7) (b_v247 x0 x1 x2 x3 x4 x5 x6 x7) (b_v342 x0 x1 x2 x3 x4 x5 x6 x7) (b_v437 x0 x1 x2 x3 x4 x5 x6 x7) (b_v484 x0 x1 x2 x3 x4 x5 x6 x7) (b_v497 x0 x1 x2 x3 x4 x5 x6 x7) (b_v498 x0 x1 x2 x3 x4 x5 x6 x7) (b_v501 x0 x1 x2 x3 x4 x5 x6 x7) (View.ld x6 (Rect.unit (s := S16x1024x256) ![15, 0, 0] S1x1024x256.size inb_S16x1024x256_S1x1024x256_15_0_0)) (View.ld x7 (Rect.unit (s := S16x256x1024) ![14, 0, 0] S1x256x1024.size inb_S16x256x1024_S1x256x1024_14_0_0)) (View.ld x7 (Rect.unit (s := S16x256x1024) ![15, 0, 0] S1x256x1024.size inb_S16x256x1024_S1x256x1024_15_0_0)) (View.ld x0 (Rect.unit (s := S512x1024) ![0, 0] S512x1024.size inb_S512x1024_S512x1024_0_0))))

def b_v574_g0 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x128 .f32 :=
  k0_pay8 (b_v102 x0 x1 x2 x3 x4 x5 x6 x7) (b_v118 x0 x1 x2 x3 x4 x5 x6 x7)

def b_v576_g0 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x1024 .f32 :=
  k0_pay9 b

def b_v598_g0 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x1024 .f32 :=
  k0_pay10 (b_v16 x0 x1 x2 x3 x4 x5 x6 x7) (b_v102 x0 x1 x2 x3 x4 x5 x6 x7) (b_v118 x0 x1 x2 x3 x4 x5 x6 x7) (View.ld x5 (Rect.unit (s := S16x1024x256) ![0, 0, 0] S1x1024x256.size inb_S16x1024x256_S1x1024x256_0_0_0)) (View.ld x6 (Rect.unit (s := S16x1024x256) ![0, 0, 0] S1x1024x256.size inb_S16x1024x256_S1x1024x256_0_0_0)) (View.ld x7 (Rect.unit (s := S16x256x1024) ![0, 0, 0] S1x256x1024.size inb_S16x256x1024_S1x256x1024_0_0_0))

def b_v601_g0 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x256 .f32 :=
  k0_pay11 (b_v16 x0 x1 x2 x3 x4 x5 x6 x7) (View.ld x5 (Rect.unit (s := S16x1024x256) ![1, 0, 0] S1x1024x256.size inb_S16x1024x256_S1x1024x256_1_0_0))

def b_v621_g0 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x1024 .f32 :=
  k0_pay12 (b_v16 x0 x1 x2 x3 x4 x5 x6 x7) (b_v574_g0 x0 x1 x2 x3 x4 x5 x6 x7 b) (b_v598_g0 x0 x1 x2 x3 x4 x5 x6 x7 b) (b_v601_g0 x0 x1 x2 x3 x4 x5 x6 x7 b) (View.ld x6 (Rect.unit (s := S16x1024x256) ![1, 0, 0] S1x1024x256.size inb_S16x1024x256_S1x1024x256_1_0_0)) (View.ld x7 (Rect.unit (s := S16x256x1024) ![1, 0, 0] S1x256x1024.size inb_S16x256x1024_S1x256x1024_1_0_0))

def b_v640_g0 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x256 .bf16 :=
  k0_pay13 (b_v16 x0 x1 x2 x3 x4 x5 x6 x7) (b_v574_g0 x0 x1 x2 x3 x4 x5 x6 x7 b) (View.ld x5 (Rect.unit (s := S16x1024x256) ![2, 0, 0] S1x1024x256.size inb_S16x1024x256_S1x1024x256_2_0_0)) (View.ld x6 (Rect.unit (s := S16x1024x256) ![2, 0, 0] S1x1024x256.size inb_S16x1024x256_S1x1024x256_2_0_0))

def b_over0 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : Vec F S512x1024 .f32 :=
  ((k0_pay1 (b_v16 x0 x1 x2 x3 x4 x5 x6 x7) (b_v574_g0 x0 x1 x2 x3 x4 x5 x6 x7 b) (b_v576_g0 x0 x1 x2 x3 x4 x5 x6 x7 b) (b_v621_g0 x0 x1 x2 x3 x4 x5 x6 x7 b) (b_v640_g0 x0 x1 x2 x3 x4 x5 x6 x7 b) (View.ld x7 (Rect.unit (s := S16x256x1024) ![2, 0, 0] S1x256x1024.size inb_S16x256x1024_S1x256x1024_2_0_0)) (View.ld x5 (Rect.unit (s := S16x1024x256) ![3, 0, 0] S1x1024x256.size inb_S16x1024x256_S1x1024x256_3_0_0)) (View.ld x6 (Rect.unit (s := S16x1024x256) ![3, 0, 0] S1x1024x256.size inb_S16x1024x256_S1x1024x256_3_0_0)) (View.ld x7 (Rect.unit (s := S16x256x1024) ![3, 0, 0] S1x256x1024.size inb_S16x256x1024_S1x256x1024_3_0_0))))

def b_base1 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : Vec F S512x1024 .f32 :=
  (if (Scalar.cmpi .ne (Scalar.extui (Scalar.cmpf .ogt (b_v540 x0 x1 x2 x3 x4 x5 x6 x7) (Scalar.ofBits .f32 0x43200000#32))) 0#32) = 1#1 then b_over0 x0 x1 x2 x3 x4 x5 x6 x7 (b_base0 x0 x1 x2 x3 x4 x5 x6 x7) else b_base0 x0 x1 x2 x3 x4 x5 x6 x7)

def b_v574_g1 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x128 .f32 :=
  k0_pay14 (b_v102 x0 x1 x2 x3 x4 x5 x6 x7) (b_v118 x0 x1 x2 x3 x4 x5 x6 x7)

def b_v576_g1 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x1024 .f32 :=
  k0_pay15 b

def b_v598_g1 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x1024 .f32 :=
  k0_pay16 (b_v16 x0 x1 x2 x3 x4 x5 x6 x7) (b_v102 x0 x1 x2 x3 x4 x5 x6 x7) (b_v118 x0 x1 x2 x3 x4 x5 x6 x7) (View.ld x5 (Rect.unit (s := S16x1024x256) ![4, 0, 0] S1x1024x256.size inb_S16x1024x256_S1x1024x256_4_0_0)) (View.ld x6 (Rect.unit (s := S16x1024x256) ![4, 0, 0] S1x1024x256.size inb_S16x1024x256_S1x1024x256_4_0_0)) (View.ld x7 (Rect.unit (s := S16x256x1024) ![4, 0, 0] S1x256x1024.size inb_S16x256x1024_S1x256x1024_4_0_0))

def b_v601_g1 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x256 .f32 :=
  k0_pay17 (b_v16 x0 x1 x2 x3 x4 x5 x6 x7) (View.ld x5 (Rect.unit (s := S16x1024x256) ![5, 0, 0] S1x1024x256.size inb_S16x1024x256_S1x1024x256_5_0_0))

def b_v621_g1 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x1024 .f32 :=
  k0_pay18 (b_v16 x0 x1 x2 x3 x4 x5 x6 x7) (b_v574_g1 x0 x1 x2 x3 x4 x5 x6 x7 b) (b_v598_g1 x0 x1 x2 x3 x4 x5 x6 x7 b) (b_v601_g1 x0 x1 x2 x3 x4 x5 x6 x7 b) (View.ld x6 (Rect.unit (s := S16x1024x256) ![5, 0, 0] S1x1024x256.size inb_S16x1024x256_S1x1024x256_5_0_0)) (View.ld x7 (Rect.unit (s := S16x256x1024) ![5, 0, 0] S1x256x1024.size inb_S16x256x1024_S1x256x1024_5_0_0))

def b_v640_g1 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x256 .bf16 :=
  k0_pay19 (b_v16 x0 x1 x2 x3 x4 x5 x6 x7) (b_v574_g1 x0 x1 x2 x3 x4 x5 x6 x7 b) (View.ld x5 (Rect.unit (s := S16x1024x256) ![6, 0, 0] S1x1024x256.size inb_S16x1024x256_S1x1024x256_6_0_0)) (View.ld x6 (Rect.unit (s := S16x1024x256) ![6, 0, 0] S1x1024x256.size inb_S16x1024x256_S1x1024x256_6_0_0))

def b_over1 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : Vec F S512x1024 .f32 :=
  ((k0_pay3 (b_v16 x0 x1 x2 x3 x4 x5 x6 x7) (b_v574_g1 x0 x1 x2 x3 x4 x5 x6 x7 b) (b_v576_g1 x0 x1 x2 x3 x4 x5 x6 x7 b) (b_v621_g1 x0 x1 x2 x3 x4 x5 x6 x7 b) (b_v640_g1 x0 x1 x2 x3 x4 x5 x6 x7 b) (View.ld x7 (Rect.unit (s := S16x256x1024) ![6, 0, 0] S1x256x1024.size inb_S16x256x1024_S1x256x1024_6_0_0)) (View.ld x5 (Rect.unit (s := S16x1024x256) ![7, 0, 0] S1x1024x256.size inb_S16x1024x256_S1x1024x256_7_0_0)) (View.ld x6 (Rect.unit (s := S16x1024x256) ![7, 0, 0] S1x1024x256.size inb_S16x1024x256_S1x1024x256_7_0_0)) (View.ld x7 (Rect.unit (s := S16x256x1024) ![7, 0, 0] S1x256x1024.size inb_S16x256x1024_S1x256x1024_7_0_0))))

def b_base2 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : Vec F S512x1024 .f32 :=
  (if (Scalar.cmpi .ne (Scalar.extui (Scalar.cmpf .ogt (k0_pay2 (b_v109 x0 x1 x2 x3 x4 x5 x6 x7)) (Scalar.ofBits .f32 0x43200000#32))) 0#32) = 1#1 then b_over1 x0 x1 x2 x3 x4 x5 x6 x7 (b_base1 x0 x1 x2 x3 x4 x5 x6 x7) else b_base1 x0 x1 x2 x3 x4 x5 x6 x7)

def b_v574_g2 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x128 .f32 :=
  k0_pay20 (b_v102 x0 x1 x2 x3 x4 x5 x6 x7) (b_v118 x0 x1 x2 x3 x4 x5 x6 x7)

def b_v576_g2 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x1024 .f32 :=
  k0_pay21 b

def b_v598_g2 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x1024 .f32 :=
  k0_pay22 (b_v16 x0 x1 x2 x3 x4 x5 x6 x7) (b_v102 x0 x1 x2 x3 x4 x5 x6 x7) (b_v118 x0 x1 x2 x3 x4 x5 x6 x7) (View.ld x5 (Rect.unit (s := S16x1024x256) ![8, 0, 0] S1x1024x256.size inb_S16x1024x256_S1x1024x256_8_0_0)) (View.ld x6 (Rect.unit (s := S16x1024x256) ![8, 0, 0] S1x1024x256.size inb_S16x1024x256_S1x1024x256_8_0_0)) (View.ld x7 (Rect.unit (s := S16x256x1024) ![8, 0, 0] S1x256x1024.size inb_S16x256x1024_S1x256x1024_8_0_0))

def b_v601_g2 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x256 .f32 :=
  k0_pay23 (b_v16 x0 x1 x2 x3 x4 x5 x6 x7) (View.ld x5 (Rect.unit (s := S16x1024x256) ![9, 0, 0] S1x1024x256.size inb_S16x1024x256_S1x1024x256_9_0_0))

def b_v621_g2 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x1024 .f32 :=
  k0_pay24 (b_v16 x0 x1 x2 x3 x4 x5 x6 x7) (b_v574_g2 x0 x1 x2 x3 x4 x5 x6 x7 b) (b_v598_g2 x0 x1 x2 x3 x4 x5 x6 x7 b) (b_v601_g2 x0 x1 x2 x3 x4 x5 x6 x7 b) (View.ld x6 (Rect.unit (s := S16x1024x256) ![9, 0, 0] S1x1024x256.size inb_S16x1024x256_S1x1024x256_9_0_0)) (View.ld x7 (Rect.unit (s := S16x256x1024) ![9, 0, 0] S1x256x1024.size inb_S16x256x1024_S1x256x1024_9_0_0))

def b_v640_g2 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x256 .bf16 :=
  k0_pay25 (b_v16 x0 x1 x2 x3 x4 x5 x6 x7) (b_v574_g2 x0 x1 x2 x3 x4 x5 x6 x7 b) (View.ld x5 (Rect.unit (s := S16x1024x256) ![10, 0, 0] S1x1024x256.size inb_S16x1024x256_S1x1024x256_10_0_0)) (View.ld x6 (Rect.unit (s := S16x1024x256) ![10, 0, 0] S1x1024x256.size inb_S16x1024x256_S1x1024x256_10_0_0))

def b_over2 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : Vec F S512x1024 .f32 :=
  ((k0_pay5 (b_v16 x0 x1 x2 x3 x4 x5 x6 x7) (b_v574_g2 x0 x1 x2 x3 x4 x5 x6 x7 b) (b_v576_g2 x0 x1 x2 x3 x4 x5 x6 x7 b) (b_v621_g2 x0 x1 x2 x3 x4 x5 x6 x7 b) (b_v640_g2 x0 x1 x2 x3 x4 x5 x6 x7 b) (View.ld x7 (Rect.unit (s := S16x256x1024) ![10, 0, 0] S1x256x1024.size inb_S16x256x1024_S1x256x1024_10_0_0)) (View.ld x5 (Rect.unit (s := S16x1024x256) ![11, 0, 0] S1x1024x256.size inb_S16x1024x256_S1x1024x256_11_0_0)) (View.ld x6 (Rect.unit (s := S16x1024x256) ![11, 0, 0] S1x1024x256.size inb_S16x1024x256_S1x1024x256_11_0_0)) (View.ld x7 (Rect.unit (s := S16x256x1024) ![11, 0, 0] S1x256x1024.size inb_S16x256x1024_S1x256x1024_11_0_0))))

def b_base3 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : Vec F S512x1024 .f32 :=
  (if (Scalar.cmpi .ne (Scalar.extui (Scalar.cmpf .ogt (k0_pay4 (b_v109 x0 x1 x2 x3 x4 x5 x6 x7)) (Scalar.ofBits .f32 0x43200000#32))) 0#32) = 1#1 then b_over2 x0 x1 x2 x3 x4 x5 x6 x7 (b_base2 x0 x1 x2 x3 x4 x5 x6 x7) else b_base2 x0 x1 x2 x3 x4 x5 x6 x7)

def b_v574_g3 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x128 .f32 :=
  k0_pay26 (b_v102 x0 x1 x2 x3 x4 x5 x6 x7) (b_v118 x0 x1 x2 x3 x4 x5 x6 x7)

def b_v576_g3 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x1024 .f32 :=
  k0_pay27 b

def b_v598_g3 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x1024 .f32 :=
  k0_pay28 (b_v16 x0 x1 x2 x3 x4 x5 x6 x7) (b_v102 x0 x1 x2 x3 x4 x5 x6 x7) (b_v118 x0 x1 x2 x3 x4 x5 x6 x7) (View.ld x5 (Rect.unit (s := S16x1024x256) ![12, 0, 0] S1x1024x256.size inb_S16x1024x256_S1x1024x256_12_0_0)) (View.ld x6 (Rect.unit (s := S16x1024x256) ![12, 0, 0] S1x1024x256.size inb_S16x1024x256_S1x1024x256_12_0_0)) (View.ld x7 (Rect.unit (s := S16x256x1024) ![12, 0, 0] S1x256x1024.size inb_S16x256x1024_S1x256x1024_12_0_0))

def b_v601_g3 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x256 .f32 :=
  k0_pay29 (b_v16 x0 x1 x2 x3 x4 x5 x6 x7) (View.ld x5 (Rect.unit (s := S16x1024x256) ![13, 0, 0] S1x1024x256.size inb_S16x1024x256_S1x1024x256_13_0_0))

def b_v621_g3 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x1024 .f32 :=
  k0_pay30 (b_v16 x0 x1 x2 x3 x4 x5 x6 x7) (b_v574_g3 x0 x1 x2 x3 x4 x5 x6 x7 b) (b_v598_g3 x0 x1 x2 x3 x4 x5 x6 x7 b) (b_v601_g3 x0 x1 x2 x3 x4 x5 x6 x7 b) (View.ld x6 (Rect.unit (s := S16x1024x256) ![13, 0, 0] S1x1024x256.size inb_S16x1024x256_S1x1024x256_13_0_0)) (View.ld x7 (Rect.unit (s := S16x256x1024) ![13, 0, 0] S1x256x1024.size inb_S16x256x1024_S1x256x1024_13_0_0))

def b_v640_g3 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : FVec F S512x256 .bf16 :=
  k0_pay31 (b_v16 x0 x1 x2 x3 x4 x5 x6 x7) (b_v574_g3 x0 x1 x2 x3 x4 x5 x6 x7 b) (View.ld x5 (Rect.unit (s := S16x1024x256) ![14, 0, 0] S1x1024x256.size inb_S16x1024x256_S1x1024x256_14_0_0)) (View.ld x6 (Rect.unit (s := S16x1024x256) ![14, 0, 0] S1x1024x256.size inb_S16x1024x256_S1x1024x256_14_0_0))

def b_over3 (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (b : Vec F S512x1024 .f32) : Vec F S512x1024 .f32 :=
  ((k0_pay7 (b_v16 x0 x1 x2 x3 x4 x5 x6 x7) (b_v574_g3 x0 x1 x2 x3 x4 x5 x6 x7 b) (b_v576_g3 x0 x1 x2 x3 x4 x5 x6 x7 b) (b_v621_g3 x0 x1 x2 x3 x4 x5 x6 x7 b) (b_v640_g3 x0 x1 x2 x3 x4 x5 x6 x7 b) (View.ld x7 (Rect.unit (s := S16x256x1024) ![14, 0, 0] S1x256x1024.size inb_S16x256x1024_S1x256x1024_14_0_0)) (View.ld x5 (Rect.unit (s := S16x1024x256) ![15, 0, 0] S1x1024x256.size inb_S16x1024x256_S1x1024x256_15_0_0)) (View.ld x6 (Rect.unit (s := S16x1024x256) ![15, 0, 0] S1x1024x256.size inb_S16x1024x256_S1x1024x256_15_0_0)) (View.ld x7 (Rect.unit (s := S16x256x1024) ![15, 0, 0] S1x256x1024.size inb_S16x256x1024_S1x256x1024_15_0_0))))

def outB (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) : Vec F S512x1024 .f32 :=
  (if (Scalar.cmpi .ne (Scalar.extui (Scalar.cmpf .ogt (k0_pay6 (b_v109 x0 x1 x2 x3 x4 x5 x6 x7)) (Scalar.ofBits .f32 0x43200000#32))) 0#32) = 1#1 then b_over3 x0 x1 x2 x3 x4 x5 x6 x7 (b_base3 x0 x1 x2 x3 x4 x5 x6 x7) else b_base3 x0 x1 x2 x3 x4 x5 x6 x7)

end Cert.Kernel2Ideal.Hand
-- ==== Proof.Kernel2Ideal.Body.lean ====
module
/- The body of the plain mixture-of-experts call at one grid point, run once at symbolic blocks: every input block is unchanged and
   the output block holds `outB` of them. -/
public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2Ideal.Frame
public import proofs.«01_k».proof.Proof.Kernel2Ideal.Val
public import Idealize.ShloMosaic.Lib.Pipeline.FrameBody
public import Idealize.ShloMosaic.Lib.Ring
public import Idealize.ShloMosaic.Lib.Tactic
public import Idealize.ShloMosaic.Lib.WordCmp
@[expose] public section
set_option maxRecDepth 16384
noncomputable section
namespace Cert.Kernel2Ideal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen
variable {F : FTy → Type} [FloatOps F]
local notation "𝕄" => MT nD τ sig Unit (Elt F) ℕ (UR sig nD τ) ℕ

/-- The output block's whole rectangle. -/
abbrev rW : Rect S512x1024 := Rect.unit (s := S512x1024) ![0, 0] S512x1024.size inb_S512x1024_S512x1024_0_0

/-- Every element of the block is in that rectangle. -/
theorem cover_rW (p : rW.shape.Idx → Elt F .f32) (L : List (View.Piece (Elt F) S512x1024 .f32)) (y : S512x1024.Idx) :
    ∃ q ∈ (⟨rW, p⟩ :: L : List (View.Piece (Elt F) S512x1024 .f32)), y ∈ q.1.set := by
  obtain ⟨q, hq, hy⟩ := View.cover_of_tiled (Val := Elt F) (e := .f32) [⟨rW, p⟩] S512x1024.size (by rfl) y
  exact ⟨q, by simp only [List.mem_cons, List.not_mem_nil, or_false] at hq; exact List.mem_cons.mpr (.inl hq), hy⟩

/-- The element of the block at a rectangle coordinate is the one with the same coordinate. -/
theorem emb_rW (y : S512x1024.Idx) : rW.emb y = y :=
  Rect.emb_eq_of_coords rW y y fun a => by
    match a with
    | ⟨0, _⟩ => exact ((Nat.zero_add _).trans (Nat.one_mul _)).symm
    | ⟨1, _⟩ => exact ((Nat.zero_add _).trans (Nat.one_mul _)).symm

/-- A whole-block store read back is what was stored. -/
theorem read_rW {κ sp} (v : View sig κ sp S512x1024 .f32) (f : v.ty.Contents (Elt F)) (p : rW.shape.Idx → Elt F .f32)
    (L : List (View.Piece (Elt F) S512x1024 .f32)) : v.read (Elt F) (v.writes (Elt F) f (⟨rW, p⟩ :: L)) = p :=
  funext fun y => View.read_writes_cons_hit v f rW p L y y (emb_rW y)

/-- A whole-block load reads the block. -/
theorem readAt_rW {κ sp} (v : View sig κ sp S512x1024 .f32) (f : v.ty.Contents (Elt F)) :
    v.readAt (Elt F) rW.toLoadRect f = v.read (Elt F) f :=
  funext fun y => congrArg (v.read (Elt F) f) (emb_rW y)

/-- A whole-block store read back by a whole-block load. -/
theorem readAt_last {κ sp} (v : View sig κ sp S512x1024 .f32) (f : v.ty.Contents (Elt F)) (p : rW.shape.Idx → Elt F .f32)
    (L : List (View.Piece (Elt F) S512x1024 .f32)) : v.readAt (Elt F) rW.toLoadRect (v.writes (Elt F) f (⟨rW, p⟩ :: L)) = p :=
  (readAt_rW v _).trans (read_rW v f p L)

/-- The same over a block of unknown contents. -/
theorem readCov_last {κ sp} (v : View sig κ sp S512x1024 .f32) (p : rW.shape.Idx → Elt F .f32)
    (L : List (View.Piece (Elt F) S512x1024 .f32)) : v.readCov (⟨rW, p⟩ :: L) rW.toLoadRect = p :=
  readAt_last v v.junk p L

/-- A whole-block load behind a guarded whole-block store. -/
theorem readAt_step {κ sp} (v : View sig κ sp S512x1024 .f32) (f g : v.ty.Contents (Elt F)) (p : rW.shape.Idx → Elt F .f32)
    (L : List (View.Piece (Elt F) S512x1024 .f32)) (cnd : Prop) [Decidable cnd] :
    v.readAt (Elt F) rW.toLoadRect (if _h : cnd then v.writes (Elt F) f (⟨rW, p⟩ :: L) else g)
      = if cnd then p else v.readAt (Elt F) rW.toLoadRect g := by
  by_cases h : cnd
  · rw [dif_pos h, if_pos h]; exact readAt_last v f p L
  · rw [dif_neg h, if_neg h]

/-- The block behind the first guarded store, which stores what `o` makes of the block. -/
def cont1 {κ sp} (v : View sig κ sp S512x1024 .f32) (f : v.ty.Contents (Elt F)) (p : rW.shape.Idx → Elt F .f32)
    (L : List (View.Piece (Elt F) S512x1024 .f32)) (cnd : Prop) [Decidable cnd] (o : Vec F S512x1024 .f32 → Vec F S512x1024 .f32) :
    v.ty.Contents (Elt F) :=
  if _h : cnd then v.writes (Elt F) f (⟨rW, o (v.readCov (⟨rW, p⟩ :: L) rW.toLoadRect)⟩ :: ⟨rW, p⟩ :: L)
  else v.writes (Elt F) f (⟨rW, p⟩ :: L)

/-- The block behind a further guarded store. -/
def contS {κ sp} (v : View sig κ sp S512x1024 .f32) (g : v.ty.Contents (Elt F)) (cnd : Prop) [Decidable cnd]
    (o : Vec F S512x1024 .f32 → Vec F S512x1024 .f32) : v.ty.Contents (Elt F) :=
  if _h : cnd then v.writes (Elt F) g [⟨rW, o (v.readAt (Elt F) rW.toLoadRect g)⟩] else g

theorem cont1_eq {κ sp} (v : View sig κ sp S512x1024 .f32) (f : v.ty.Contents (Elt F)) (p : rW.shape.Idx → Elt F .f32)
    (L : List (View.Piece (Elt F) S512x1024 .f32)) (cnd : Prop) [Decidable cnd] (o : Vec F S512x1024 .f32 → Vec F S512x1024 .f32) :
    v.readAt (Elt F) rW.toLoadRect (cont1 v f p L cnd o) = if cnd then o p else p := by
  unfold cont1
  rw [readAt_step, readAt_last, readCov_last]

theorem contS_eq {κ sp} (v : View sig κ sp S512x1024 .f32) (g : v.ty.Contents (Elt F)) (cnd : Prop) [Decidable cnd]
    (o : Vec F S512x1024 .f32 → Vec F S512x1024 .f32) (b : Vec F S512x1024 .f32) (hb : v.readAt (Elt F) rW.toLoadRect g = b) :
    v.readAt (Elt F) rW.toLoadRect (contS v g cnd o) = if cnd then o b else b := by
  unfold contS
  rw [readAt_step, hb]

/-- What the four guarded stores leave in the block. -/
theorem chain {κ sp} (v : View sig κ sp S512x1024 .f32) (f : v.ty.Contents (Elt F)) (p : rW.shape.Idx → Elt F .f32)
    (L : List (View.Piece (Elt F) S512x1024 .f32)) (c1 c2 c3 c4 : Prop) [Decidable c1] [Decidable c2] [Decidable c3] [Decidable c4]
    (o1 o2 o3 o4 : Vec F S512x1024 .f32 → Vec F S512x1024 .f32) :
    v.readAt (Elt F) rW.toLoadRect (contS v (contS v (contS v (cont1 v f p L c1 o1) c2 o2) c3 o3) c4 o4)
      = (fun b : Vec F S512x1024 .f32 => if c4 then o4 b else b) ((fun b : Vec F S512x1024 .f32 => if c3 then o3 b else b)
          ((fun b : Vec F S512x1024 .f32 => if c2 then o2 b else b) (if c1 then o1 p else p))) :=
  contS_eq v _ c4 o4 _ (contS_eq v _ c3 o3 _ (contS_eq v _ c2 o2 _ (cont1_eq v f p L c1 o1)))

set_option maxHeartbeats 4000000 in
/-- The body's triple: the inputs as they were, the output block at `outB`. -/
theorem sound_body_at (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S64x1024 .bf16) (harg3 : arg3.IsWhole) (arg4 : Memref sig .tc .vmem S32x1 .f32) (harg4 : arg4.IsWhole) (arg5 : Memref sig .tc .vmem S512x512 .bf16) (harg5 : arg5.IsWhole) (arg6 : Memref sig .tc .vmem S16x1024x256 .bf16) (harg6 : arg6.IsWhole) (arg7 : Memref sig .tc .vmem S16x1024x256 .bf16) (harg7 : arg7.IsWhole) (arg8 : Memref sig .tc .vmem S16x256x1024 .bf16) (harg8 : arg8.IsWhole) (arg9 : Memref sig .tc .vmem S512x1024 .f32) (harg9 : arg9.IsWhole)
    (x0 : Vec F S512x1024 .f32) (x1 : Vec F S1x1024 .f32) (x2 : Vec F S64x1024 .bf16) (x3 : Vec F S32x1 .f32) (x4 : Vec F S512x512 .bf16) (x5 : Vec F S16x1024x256 .bf16) (x6 : Vec F S16x1024x256 .bf16) (x7 : Vec F S16x256x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outB x0 x1 x2 x3 x4 x5 x6 x7)) -∗ K ⟨⟩))
      ⊢ wp frame (wpE (defs₀ (F := F)) Variants.none c none) E (cc0_moe i arg1 harg1 arg2 harg2 arg3 harg3 arg4 harg4 arg5 harg5 arg6 harg6 arg7 harg7 arg8 harg8 arg9 harg9) K := by
  simp only [cc0_moe_eq_skeleton]; unfold cc0_moe_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (readAt_rW _ _).symm.trans ?_
  have e0 : sound_body_at.sl.v531 c arg1 arg9 f0 = (View.ld (View.read (Elt F) arg1.view f0) (Rect.unit (s := S512x1024) ![0, 0] S512x1024.size inb_S512x1024_S512x1024_0_0)) := by
    delta sound_body_at.sl.v531 sound_body_at.sl.H8_1
    rw [readCov_last]
    rfl
  have e4 := chain arg9.view f8
      (k0_pay101 (b_v131 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7)) (b_v145 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7)) (b_v247 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7)) (b_v342 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7)) (b_v437 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7)) (b_v484 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7)) (b_v497 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7)) (b_v498 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7)) (b_v501 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7)) (View.ld (View.read (Elt F) arg7.view f6) (Rect.unit (s := S16x1024x256) ![15, 0, 0] S1x1024x256.size inb_S16x1024x256_S1x1024x256_15_0_0)) (View.ld (View.read (Elt F) arg8.view f7) (Rect.unit (s := S16x256x1024) ![14, 0, 0] S1x256x1024.size inb_S16x256x1024_S1x256x1024_14_0_0)) (View.ld (View.read (Elt F) arg8.view f7) (Rect.unit (s := S16x256x1024) ![15, 0, 0] S1x256x1024.size inb_S16x256x1024_S1x256x1024_15_0_0)) (sound_body_at.sl.v531 c arg1 arg9 f0))
      (sound_body_at.sl.H8_1 c arg1 f0)
      (sound_body_at.sl.v543 c arg1 arg2 arg3 arg4 f0 f1 f2 f3 = 1#1)
      (sound_body_at.sl.v551 c arg1 arg2 arg3 arg4 f0 f1 f2 f3 = 1#1)
      (sound_body_at.sl.v559 c arg1 arg2 arg3 arg4 f0 f1 f2 f3 = 1#1)
      (sound_body_at.sl.v567 c arg1 arg2 arg3 arg4 f0 f1 f2 f3 = 1#1)
      (b_over0 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7))
      (b_over1 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7))
      (b_over2 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7))
      (b_over3 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) (View.read (Elt F) arg8.view f7))
  refine Eq.trans ?_ (e4.trans ?_)
  · rfl
  rw [e0]
  rfl

end Cert.Kernel2Ideal.Hand
-- ==== Proof.Kernel2Ideal.Run.lean ====
module
/- The frame of the call: each grid point leaves its input blocks as they were and puts `outB` of them into the result block, so the
   whole program runs without fault, keeps its arguments, and ends with every semaphore at zero. -/
public import proofs.«01_k».proof.Proof.Kernel2Ideal.Body
public import Idealize.ShloMosaic.Lib.Claim
@[expose] public section
set_option maxRecDepth 16384
noncomputable section
namespace Cert.Kernel2Ideal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- What the call's windows hold: the inputs their blocks, the result `outB` of the inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outB (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin 9) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outB (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the point starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the point ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- One grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_body_at c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀
  rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The program runs to the call's post-condition with all semaphores at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) (s₀ m ρ) (fun r => ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: no fault, the arguments unchanged, the semaphores at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) :=
  θ_run_and (unchanged m ρ) ((θ_run defs _ _).mono (fun _ h => h.2) (run_main_quiescent m ρ))

end Cert.Kernel2Ideal.Hand
-- ==== Proof.Moe.RefVec.lean ====
module
/- The reference's layer as one program over whole arrays: the norm, the logits, the softmax and the choice, the gates,
   the experts. -/
public import proofs.«01_k».proof.Proof.Gen.ReferenceIdeal.Run
public import Idealize.ShloMosaic.Lib.Pointwise
@[expose] public section
noncomputable section
namespace Cert.Moe.Ref
open Idealize.ShloMosaic
open Cert.ReferenceIdeal Cert.ReferenceIdeal.Gen

/-- The norm with a gain. -/
def normR (x : FVec Ideal S32768x1024 .f32) (g : FVec Ideal S1024 .f32) : FVec Ideal S32768x1024 .f32 :=
  mulf (mulf x (broadcastInDim S32768x1024 ![0, 1] bcast_S32768x1_S32768x1024_0_1
    (Host.rsqrt (addf (Host.divf (broadcastInDim S32768x1 ![0] bcast_S32768_S32768x1_0
        (Host.reduceAdd (mulf x x) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))
/-- The logits of the groups. -/
def glR (hn : FVec Ideal S32768x1024 .f32) (w : FVec Ideal S1024x4 .f32) (b : FVec Ideal S4 .f32) : FVec Ideal S32768x4 .f32 :=
  addf (Host.dotGeneral dot_S32768x1024_S1024x4_S32768x4_1_0_0_1_n_n none hn w)
    (broadcastInDim S32768x4 ![0, 1] bcast_S1x4_S32768x4_0_1 (broadcastInDim S1x4 ![1] bcast_S4_S1x4_1 b))
/-- The logits of the experts. -/
def elR (hn : FVec Ideal S32768x1024 .f32) (w : FVec Ideal S1024x16 .f32) (b : FVec Ideal S16 .f32) : FVec Ideal S32768x16 .f32 :=
  addf (Host.dotGeneral dot_S32768x1024_S1024x16_S32768x16_1_0_0_1_n_n none hn w)
    (broadcastInDim S32768x16 ![0, 1] bcast_S1x16_S32768x16_0_1 (broadcastInDim S1x16 ![1] bcast_S16_S1x16_1 b))
/-- The exponentials of four values less the largest. -/
def exp4R (gl : FVec Ideal S32768x4 .f32) : FVec Ideal S32768x4 .f32 :=
  Host.exp (subf gl (broadcastInDim S32768x4 ![0, 1] bcast_S32768x1_S32768x4_0_1 (broadcastInDim S32768x1 ![0] bcast_S32768_S32768x1_0
    (maximumf (broadcastInDim S32768 ![] bcast_S_S32768 (constant S_ .f32 0xFF800000#32))
      (Host.reduce FloatOps.maximumf gl (constant S_ .f32 0xFF800000#32) reducesTo_S32768x4_S32768_d1 h_S_)))))
/-- The softmax of four values. -/
def soft4R (gl : FVec Ideal S32768x4 .f32) : FVec Ideal S32768x4 .f32 :=
  Host.divf (exp4R gl) (broadcastInDim S32768x4 ![0, 1] bcast_S32768x1_S32768x4_0_1 (broadcastInDim S32768x1 ![0] bcast_S32768_S32768x1_0
    (Host.reduceAdd (exp4R gl) (constant S_ .f32 0x00000000#32) reducesTo_S32768x4_S32768_d1 h_S_)))
/-- The chosen group. -/
def ixR (gl : FVec Ideal S32768x4 .f32) : IVec S32768 32 :=
  shapeCast S32768 (Host.topK S32768x1 1 (FloatOps.cmpfTotal (F := Ideal) (φ := .f32) .gt) gl sliceFits_S32768x4_S32768x1).2 shapeCasts_S32768x1_S32768
/-- A place counted from the end when negative. -/
def wrapR (i : IVec S32768x1 32) : IVec S32768x1x1 32 :=
  shapeCast S32768x1x1 (select (cmpi .slt i (broadcastInDim S32768x1 ![] bcast_S_S32768x1 (constantI S_ 32 0#32)))
    (addi i (broadcastInDim S32768x1 ![] bcast_S_S32768x1 (constantI S_ 32 4#32))) i) shapeCasts_S32768x1_S32768x1x1
def wrap3R (i : IVec S32768x1x1 32) : IVec S32768x1x1 32 :=
  select (cmpi .slt i (broadcastInDim S32768x1x1 ![] bcast_S_S32768x1x1 (constantI S_ 32 0#32)))
    (addi i (broadcastInDim S32768x1x1 ![] bcast_S_S32768x1x1 (constantI S_ 32 4#32))) i
/-- Whether a place is one of the four. -/
def insideR (i : IVec S32768x1x1 32) : IVec S32768x1 1 :=
  Host.reduce IntOp.andi (andi (cmpi .sge i (broadcastInDim S32768x1x1 ![] bcast_S_S32768x1x1 (constantI S_ 32 0#32)))
    (cmpi .sle i (broadcastInDim S32768x1x1 ![0, 1, 2] bcast_S1x1x1_S32768x1x1_0_1_2 (broadcastInDim S1x1x1 ![2] bcast_S1_S1x1x1_2 (constantI S1 32 3#32)))))
    (constantI S_ 1 1#1) reducesTo_S32768x1x1_S32768x1_d2 h_S_
/-- The value at the place. -/
def pickR (p : FVec Ideal S32768x4 .f32) (i : IVec S32768x1x1 32) : FVec Ideal S32768x1 .f32 :=
  select (insideR i) (Host.gather gather_S32768x4_S32768x1x1_S32768x1_n_1_0_0_1_2_11 p i)
    (broadcastInDim S32768x1 ![] bcast_S_S32768x1 (constant S_ .f32 0x7FC00000#32))
/-- The four values at the place. -/
def pick4R (p : FVec Ideal S32768x4x4 .f32) (i : IVec S32768x1x1 32) : FVec Ideal S32768x1x4 .f32 :=
  select (broadcastInDim S32768x1x4 ![0, 1] bcast_S32768x1_S32768x1x4_0_1 (insideR i))
    (Host.gather gather_S32768x4x4_S32768x1x1_S32768x1x4_2_1_0_0_1_2_114 p i)
    (broadcastInDim S32768x1x4 ![] bcast_S_S32768x1x4 (constant S_ .f32 0x7FC00000#32))
/-- The weight of the chosen group. -/
def gwR (gl : FVec Ideal S32768x4 .f32) : FVec Ideal S32768x1 .f32 :=
  pickR (soft4R gl) (wrapR (broadcastInDim S32768x1 ![0] bcast_S32768_S32768x1_0 (ixR gl)))
/-- The logits of the chosen group's experts. -/
def el4R (gl : FVec Ideal S32768x4 .f32) (el : FVec Ideal S32768x16 .f32) : FVec Ideal S32768x4 .f32 :=
  shapeCast S32768x4 (pick4R (shapeCast S32768x4x4 el shapeCasts_S32768x16_S32768x4x4)
    (wrap3R (broadcastInDim S32768x1x1 ![0] bcast_S32768_S32768x1x1_0 (ixR gl)))) shapeCasts_S32768x1x4_S32768x4
/-- The two largest of four, and where. -/
def topV (e : FVec Ideal S32768x4 .f32) : FVec Ideal S32768x2 .f32 :=
  (Host.topK S32768x2 1 (FloatOps.cmpfTotal (F := Ideal) (φ := .f32) .gt) e sliceFits_S32768x4_S32768x2).1
def topI (e : FVec Ideal S32768x4 .f32) : IVec S32768x2 32 :=
  (Host.topK S32768x2 1 (FloatOps.cmpfTotal (F := Ideal) (φ := .f32) .gt) e sliceFits_S32768x4_S32768x2).2
/-- The exponentials of two values less the larger. -/
def exp2R (v : FVec Ideal S32768x2 .f32) : FVec Ideal S32768x2 .f32 :=
  Host.exp (subf v (broadcastInDim S32768x2 ![0, 1] bcast_S32768x1_S32768x2_0_1 (broadcastInDim S32768x1 ![0] bcast_S32768_S32768x1_0
    (maximumf (broadcastInDim S32768 ![] bcast_S_S32768 (constant S_ .f32 0xFF800000#32))
      (Host.reduce FloatOps.maximumf v (constant S_ .f32 0xFF800000#32) reducesTo_S32768x2_S32768_d1 h_S_)))))
def soft2R (v : FVec Ideal S32768x2 .f32) : FVec Ideal S32768x2 .f32 :=
  Host.divf (exp2R v) (broadcastInDim S32768x2 ![0, 1] bcast_S32768x1_S32768x2_0_1 (broadcastInDim S32768x1 ![0] bcast_S32768_S32768x1_0
    (Host.reduceAdd (exp2R v) (constant S_ .f32 0x00000000#32) reducesTo_S32768x2_S32768_d1 h_S_)))
/-- The number of an expert from its group and its place in it. -/
def numR (i : IVec S32768 32) (j : IVec S32768x2 32) : IVec S32768x2 32 :=
  addi (broadcastInDim S32768x2 ![0, 1] bcast_S32768x1_S32768x2_0_1 (muli (broadcastInDim S32768x1 ![0] bcast_S32768_S32768x1_0 i)
    (broadcastInDim S32768x1 ![] bcast_S_S32768x1 (constantI S_ 32 4#32)))) j
/-- Two weights put at two numbers of sixteen. -/
def spreadR (a : IVec S32768x2 32) (w : FVec Ideal S32768x2 .f32) : FVec Ideal S32768x16 .f32 :=
  Host.reduceAdd (mulf (uitofp .f32 (cmpi .eq
      (broadcastInDim S32768x2x16 ![0, 1, 2] bcast_S32768x2x1_S32768x2x16_0_1_2 (broadcastInDim S32768x2x1 ![0, 1] bcast_S32768x2_S32768x2x1_0_1 a))
      (broadcastInDim S32768x2x16 ![0, 1, 2] bcast_S1x1x16_S32768x2x16_0_1_2 (iotaInDim S1x1x16 32 2))))
    (broadcastInDim S32768x2x16 ![0, 1, 2] bcast_S32768x2x1_S32768x2x16_0_1_2 (broadcastInDim S32768x2x1 ![0, 1] bcast_S32768x2_S32768x2x1_0_1 w)))
    (constant S_ .f32 0x00000000#32) reducesTo_S32768x2x16_S32768x16_d1 h_S_
/-- The gates. -/
def gatesR (gl : FVec Ideal S32768x4 .f32) (el : FVec Ideal S32768x16 .f32) : FVec Ideal S32768x16 .f32 :=
  spreadR (numR (ixR gl) (topI (el4R gl el)))
    (mulf (soft2R (topV (el4R gl el))) (broadcastInDim S32768x2 ![0, 1] bcast_S32768x1_S32768x2_0_1 (gwR gl)))
/-- One projection of every expert. -/
def projR (hn : FVec Ideal S32768x1024 .f32) (w : FVec Ideal S16x1024x256 .f32) : FVec Ideal S32768x16x256 .f32 :=
  Host.dotGeneral dot_S32768x1024_S16x1024x256_S32768x16x256_1_1_0_02_n_n none hn w
/-- A gate times its logistic. -/
def siluR (p : FVec Ideal S32768x16x256 .f32) : FVec Ideal S32768x16x256 .f32 :=
  mulf p (Host.divf (broadcastInDim S32768x16x256 ![] bcast_S_S32768x16x256 (constant S_ .f32 0x3F800000#32))
    (addf (broadcastInDim S32768x16x256 ![] bcast_S_S32768x16x256 (constant S_ .f32 0x3F800000#32)) (Host.exp (Host.negf p))))
/-- The experts, gated, before the last projection. -/
def actR (hn : FVec Ideal S32768x1024 .f32) (wg wu : FVec Ideal S16x1024x256 .f32) (g : FVec Ideal S32768x16 .f32) : FVec Ideal S32768x16x256 .f32 :=
  mulf (mulf (siluR (projR hn wg)) (projR hn wu))
    (broadcastInDim S32768x16x256 ![0, 1, 2] bcast_S32768x16x1_S32768x16x256_0_1_2 (broadcastInDim S32768x16x1 ![0, 1] bcast_S32768x16_S32768x16x1_0_1 g))
/-- The experts' sum. -/
def outR (a : FVec Ideal S32768x16x256 .f32) (wd : FVec Ideal S16x256x1024 .f32) : FVec Ideal S32768x1024 .f32 :=
  Host.dotGeneral dot_S32768x4096_S4096x1024_S32768x1024_1_0_0_1_n_n none (shapeCast S32768x4096 a shapeCasts_S32768x16x256_S32768x4096)
    (shapeCast S4096x1024 wd shapeCasts_S16x256x1024_S4096x1024)
/-- The layer with its residual. -/
def layerR (x : FVec Ideal S32768x1024 .f32) (g : FVec Ideal S1024 .f32) (wg : FVec Ideal S1024x4 .f32) (bg : FVec Ideal S4 .f32)
    (we : FVec Ideal S1024x16 .f32) (be : FVec Ideal S16 .f32) (w1 w3 : FVec Ideal S16x1024x256 .f32) (w2 : FVec Ideal S16x256x1024 .f32) :
    FVec Ideal S32768x1024 .f32 :=
  addf x (outR (actR (normR x g) w1 w3 (gatesR (glR (normR x g) wg bg) (elR (normR x g) we be))) w2)
/-- The stream with the attention's projection added. -/
def inR (x : FVec Ideal S32768x1024 .f32) (a : FVec Ideal S32768x1024 .bf16) (w : FVec Ideal S1024x1024 .f32) : FVec Ideal S32768x1024 .f32 :=
  addf x (Host.dotGeneral dot_S32768x1024_S1024x1024_S32768x1024_1_0_0_1_n_n none (extf .f32 a bitsLt_bf16_f32) w)
end Cert.Moe.Ref
-- ==== Proof.Moe.Gather.lean ====
module
/- The two batched gathers read at an index: row `n` at the place its index word names. -/
public import proofs.«01_k».proof.Proof.Moe.RefVec
@[expose] public section
noncomputable section
namespace Cert.Moe.Ref
open Idealize.ShloMosaic
open Cert.ReferenceIdeal Cert.ReferenceIdeal.Gen

theorem gather_one {α : Type} (x : S32768x4.Idx → α) (idx : IVec S32768x1x1 32) (n : Fin 32768) (k : Fin 4)
    (hk : idx (ix3 n 0 0) = BitVec.ofNat 32 k.val) :
    Host.gather gather_S32768x4_S32768x1x1_S32768x1_n_1_0_0_1_2_11 x idx (ix2 n 0) = x (ix2 n k) := by
  unfold Host.gather
  congr 1
  have hsi : gather_S32768x4_S32768x1x1_S32768x1_n_1_0_0_1_2_11.siIdx (ix2 n 0) ⟨0, by decide⟩ = ix3 n 0 0 := by
    funext b
    match b with
    | ⟨0, _⟩ => rfl
    | ⟨1, _⟩ => rfl
    | ⟨2, _⟩ => rfl
  funext a
  apply Fin.ext
  match a with
  | ⟨0, _⟩ =>
    show 0 + n.val + 0 = n.val
    omega
  | ⟨1, _⟩ =>
    show min (idx (gather_S32768x4_S32768x1x1_S32768x1_n_1_0_0_1_2_11.siIdx (ix2 n 0) ⟨0, _⟩)).toInt.toNat 3 + 0 + 0 = k.val
    rw [hsi, hk]
    clear hk hsi
    revert k; decide

theorem gather_four {α : Type} (x : S32768x4x4.Idx → α) (idx : IVec S32768x1x1 32) (n : Fin 32768) (k j : Fin 4)
    (hk : idx (ix3 n 0 0) = BitVec.ofNat 32 k.val) :
    Host.gather gather_S32768x4x4_S32768x1x1_S32768x1x4_2_1_0_0_1_2_114 x idx (ix3 n 0 j) = x (ix3 n k j) := by
  unfold Host.gather
  congr 1
  have hsi : gather_S32768x4x4_S32768x1x1_S32768x1x4_2_1_0_0_1_2_114.siIdx (ix3 n 0 j) ⟨0, by decide⟩ = ix3 n 0 0 := by
    funext b
    match b with
    | ⟨0, _⟩ => rfl
    | ⟨1, _⟩ => rfl
    | ⟨2, _⟩ => rfl
  funext a
  apply Fin.ext
  match a with
  | ⟨0, _⟩ =>
    show 0 + n.val + 0 = n.val
    omega
  | ⟨1, _⟩ =>
    show min (idx (gather_S32768x4x4_S32768x1x1_S32768x1x4_2_1_0_0_1_2_114.siIdx (ix3 n 0 j) ⟨0, _⟩)).toInt.toNat 3 + 0 + 0 = k.val
    rw [hsi, hk]
    clear hk hsi
    revert k; decide
  | ⟨2, _⟩ =>
    show 0 + 0 + j.val = j.val
    omega
end Cert.Moe.Ref
-- ==== Proof.Moe.First.lean ====
module
/- The first largest of a row of values, and the second: what they are, that there is one, and how the largest value and
   the first row at which it is taken name it. -/
public import Idealize.ShloMosaic.Lib.Pointwise
@[expose] public section
noncomputable section
namespace Cert.Moe

/-- `k` is the first place at which `v` is largest. -/
def IsFirst {n : ℕ} {α : Type} [LinearOrder α] (v : Fin n → α) (k : Fin n) : Prop := (∀ j, v j ≤ v k) ∧ ∀ j, j < k → v j < v k
/-- `b` is the first place at which `v` is largest once `a` is left out. -/
def IsSecond {n : ℕ} {α : Type} [LinearOrder α] (v : Fin n → α) (a b : Fin n) : Prop :=
  b ≠ a ∧ (∀ j, j ≠ a → v j ≤ v b) ∧ ∀ j, j ≠ a → j < b → v j < v b

/-- The largest value. -/
theorem sup_eq {n : ℕ} (v : Fin n → EReal) (k : Fin n) (h : ∀ j, v j ≤ v k) : Finset.univ.sup v = v k :=
  le_antisymm (Finset.sup_le fun j _ => h j) (Finset.le_sup (Finset.mem_univ k))

/-- The least number of a place at which the largest value is taken. -/
theorem inf_eq {n : ℕ} (v : Fin n → EReal) (k : Fin n) (h : IsFirst v k) (c : EReal) (hc : ((k.val : ℝ) : EReal) ≤ c) :
    (Finset.univ.inf fun j : Fin n => if v j = v k then ((j.val : ℝ) : EReal) else c) = ((k.val : ℝ) : EReal) := by
  apply le_antisymm
  · refine (Finset.inf_le (Finset.mem_univ k)).trans ?_
    simp
  · refine Finset.le_inf fun j _ => ?_
    by_cases e : v j = v k
    · rw [if_pos e]
      have : k ≤ j := by
        by_contra hlt
        exact absurd e (h.2 j (not_le.mp hlt)).ne
      exact_mod_cast this
    · rw [if_neg e]; exact hc

end Cert.Moe
-- ==== Proof.Moe.Top.lean ====
module
/- The stable order of four values, largest first: its first place is the first largest, its second the next. -/
public import proofs.«01_k».proof.Proof.Moe.First
public import Idealize.ShloMosaic.Lib.SortFacts
@[expose] public section
noncomputable section
namespace Cert.Moe
open Idealize.ShloMosaic

section
variable {n : ℕ} {α : Type} [LinearOrder α] (v : Fin n → α)
/-- Before in the order: larger. -/
def larger (a b : Fin n) : Bool := decide (v b < v a)
/-- Before, ties going by the place. -/
def ahead (a b : Fin n) : Prop := v b < v a ∨ (v b = v a ∧ a < b)

theorem ahead_trans {a b c : Fin n} (h : ahead v a b) (h' : ahead v b c) : ahead v a c := by
  rcases h with h | ⟨h, hl⟩ <;> rcases h' with h' | ⟨h', hl'⟩
  · exact .inl (h'.trans h)
  · exact .inl (h' ▸ h)
  · exact .inl (h ▸ h')
  · exact .inr ⟨h'.trans h, hl.trans hl'⟩

theorem insert_ahead (a : Fin n) (l : List (Fin n)) (hl : l.Pairwise (ahead v)) (ha : ∀ b ∈ l, a < b) :
    (insertBefore (larger v) a l).Pairwise (ahead v) := by
  induction l with
  | nil => exact List.pairwise_singleton _ _
  | cons b l ih =>
    rw [List.pairwise_cons] at hl
    unfold insertBefore
    by_cases h : larger v b a = true
    · rw [if_pos h, List.pairwise_cons]
      refine ⟨fun x hx => ?_, ih hl.2 fun x hx => ha x (List.mem_cons_of_mem _ hx)⟩
      rcases List.mem_cons.mp ((perm_insertBefore (larger v) a l).mem_iff.mp hx) with rfl | hx
      · exact .inl (of_decide_eq_true h)
      · exact hl.1 x hx
    · rw [if_neg h, List.pairwise_cons]
      have hab : ahead v a b := by
        have hle : v b ≤ v a := not_lt.mp fun hh => h (decide_eq_true hh)
        rcases hle.lt_or_eq with hh | hh
        · exact .inl hh
        · exact .inr ⟨hh, ha b List.mem_cons_self⟩
      refine ⟨fun x hx => ?_, List.pairwise_cons.mpr hl⟩
      rcases List.mem_cons.mp hx with rfl | hx
      · exact hab
      · exact ahead_trans v hab (hl.1 x hx)

theorem sort_ahead (l : List (Fin n)) (hl : l.Pairwise (· < ·)) : (stableSort (larger v) l).Pairwise (ahead v) := by
  induction l with
  | nil => exact List.Pairwise.nil
  | cons a l ih =>
    rw [List.pairwise_cons] at hl
    exact insert_ahead v a _ (ih hl.2) fun b hb => hl.1 b ((perm_stableSort _ _).mem_iff.mp hb)

theorem sortedFrom_ahead (i j : Fin n) (hij : i < j) : ahead v (sortedFrom (larger v) i) (sortedFrom (larger v) j) :=
  (List.pairwise_iff_get.mp (sort_ahead v (List.finRange n) (List.pairwise_lt_finRange n))) _ _ hij
end

theorem top_first {α : Type} [LinearOrder α] (v : Fin 4 → α) : IsFirst v (sortedFrom (larger v) 0) := by
  have key : ∀ j, j ≠ sortedFrom (larger v) 0 → ahead v (sortedFrom (larger v) 0) j := fun j hj => by
    obtain ⟨i, rfl⟩ := sortedFrom_surjective (larger v) j
    exact sortedFrom_ahead v 0 i (Fin.pos_of_ne_zero fun h => hj (by rw [h]))
  refine ⟨fun j => ?_, fun j hj => ?_⟩
  · by_cases h : j = sortedFrom (larger v) 0
    · rw [← h]
    · rcases key j h with h | h
      · exact h.le
      · exact h.1.le
  · rcases key j hj.ne with h | h
    · exact h
    · exact absurd h.2 (not_lt.mpr hj.le)

theorem top_second {α : Type} [LinearOrder α] (v : Fin 4 → α) : IsSecond v (sortedFrom (larger v) 0) (sortedFrom (larger v) 1) := by
  have key : ∀ j, j ≠ sortedFrom (larger v) 0 → j ≠ sortedFrom (larger v) 1 → ahead v (sortedFrom (larger v) 1) j := fun j h0 h1 => by
    obtain ⟨i, rfl⟩ := sortedFrom_surjective (larger v) j
    refine sortedFrom_ahead v 1 i ?_
    have h0' : i ≠ 0 := fun h => h0 (by rw [h])
    have h1' : i ≠ 1 := fun h => h1 (by rw [h])
    omega
  refine ⟨fun h => absurd (sortedFrom_injective _ h) (by decide), fun j h0 => ?_, fun j h0 hj => ?_⟩
  · by_cases h : j = sortedFrom (larger v) 1
    · rw [← h]
    · rcases key j h0 h with h | h
      · exact h.le
      · exact h.1.le
  · rcases key j h0 hj.ne with h | h
    · exact h
    · exact absurd h.2 (not_lt.mpr hj.le)

end Cert.Moe
-- ==== Proof.Moe.TopK.lean ====
module
/- The largest values of a row of four and their places, as the sort gives them. -/
public import proofs.«01_k».proof.Proof.Moe.RefVec
public import proofs.«01_k».proof.Proof.Moe.Top
@[expose] public section
noncomputable section
namespace Cert.Moe.Ref
open Idealize.ShloMosaic
open Cert.ReferenceIdeal Cert.ReferenceIdeal.Gen

/-- The order of a row's places, the largest value first. -/
def ord (x : FVec Ideal S32768x4 .f32) (n : Fin 32768) : Fin 4 → Fin 4 := sortedFrom (larger fun j => (x (ix2 n j) : EReal))

theorem along_eq (n : Fin 32768) (j k : Fin 4) : (ix2 n j : S32768x4.Idx).along 1 k = ix2 n k := by
  funext a
  match a with
  | ⟨0, _⟩ => rfl
  | ⟨1, _⟩ => rfl

theorem sort_at {β : Type} (x : FVec Ideal S32768x4 .f32) (y : S32768x4.Idx → β) (n : Fin 32768) (j : Fin 4) :
    (Host.sort2 S32768x4 1 (fun l r => FloatOps.cmpfTotal (F := Ideal) (φ := .f32) .gt l.1 r.1) x y).1 (ix2 n j) = x (ix2 n (ord x n j))
    ∧ (Host.sort2 S32768x4 1 (fun l r => FloatOps.cmpfTotal (F := Ideal) (φ := .f32) .gt l.1 r.1) x y).2 (ix2 n j) = y (ix2 n (ord x n j)) := by
  have e : (fun k k' : Fin 4 => (FloatOps.cmpfTotal (F := Ideal) (φ := .f32) .gt (x ((ix2 n j : S32768x4.Idx).along 1 k)) (x ((ix2 n j : S32768x4.Idx).along 1 k'))) == 1#1)
      = larger fun j => (x (ix2 n j) : EReal) := by
    funext k k'
    rw [along_eq, along_eq]
    show (BitVec.ofBool (decide _) == 1#1) = decide _
    by_cases h : (x (ix2 n k') : EReal) < x (ix2 n k)
    · rw [decide_eq_true h]; rw [show (BitVec.ofBool true == 1#1) = true from rfl]
    · rw [decide_eq_false h]; rw [show (BitVec.ofBool false == 1#1) = false from rfl]
  have h : ∀ {γ : Type} (z : S32768x4.Idx → γ), z ((ix2 n j : S32768x4.Idx).along 1 (sortedFrom (fun k k' : Fin 4 => (FloatOps.cmpfTotal (F := Ideal) (φ := .f32) .gt (x ((ix2 n j : S32768x4.Idx).along 1 k)) (x ((ix2 n j : S32768x4.Idx).along 1 k'))) == 1#1) j)) = z (ix2 n (ord x n j)) := fun z =>
    (congrArg (fun p : Fin 4 → Fin 4 → Bool => z ((ix2 n j : S32768x4.Idx).along 1 (sortedFrom p j))) e).trans (congrArg z (along_eq n j _))
  exact ⟨h x, h y⟩

theorem slice_at {t : Fin 32768} {k : ℕ} (hk : k ≤ 4) (h : S32768x4.Slices (fun _ => 0) (⟨2, ![32768, k]⟩ : Shape)) (j : Fin k) {α : Type} (y : S32768x4.Idx → α) :
    extractStridedSlice (⟨2, ![32768, k]⟩ : Shape) (fun _ => 0) y h (ix2 t j) = y (ix2 t (j.castLE hk)) := by
  unfold extractStridedSlice
  refine congrArg _ ?_
  funext a
  match a with
  | ⟨0, _⟩ => exact Fin.ext (by simp)
  | ⟨1, _⟩ => exact Fin.ext (by simp)
theorem topV_apply (x : FVec Ideal S32768x4 .f32) (n : Fin 32768) (j : Fin 2) : topV x (ix2 n j) = x (ix2 n (ord x n (j.castLE (by decide)))) :=
  (slice_at (by decide) sliceFits_S32768x4_S32768x2 j _).trans (sort_at x (iotaInDim S32768x4 32 1) n _).1
theorem topI_apply (x : FVec Ideal S32768x4 .f32) (n : Fin 32768) (j : Fin 2) : topI x (ix2 n j) = BitVec.ofNat 32 (ord x n (j.castLE (by decide))).val :=
  (slice_at (by decide) sliceFits_S32768x4_S32768x2 j _).trans ((sort_at x (iotaInDim S32768x4 32 1) n _).2.trans rfl)
theorem ixR_apply (x : FVec Ideal S32768x4 .f32) (n : Fin 32768) : ixR x (ix1 n) = BitVec.ofNat 32 (ord x n 0).val := by
  pointwise [ixR]
  exact (slice_at (by decide) sliceFits_S32768x4_S32768x1 (0 : Fin 1) _).trans ((sort_at x (iotaInDim S32768x4 32 1) n _).2.trans rfl)
end Cert.Moe.Ref
-- ==== Proof.Moe.Vec.lean ====
module
/- One block of 512 tokens through the mixture of experts, as one program over vectors: the norm, the router's
   logits, the choice of the group and of two experts, the rank of a token in its group, the slot it is moved to,
   the experts on the slots, the return, and the experts on what overflowed. -/
public import proofs.«01_k».proof.Proof.Gen.KernelIdeal.Skeleton
public import Idealize.ShloMosaic.Lib.Pipeline.FrameBody
public import Idealize.ShloMosaic.Lib.Pointwise
@[expose] public section
noncomputable section
namespace Cert.Moe
open Idealize.ShloMosaic
open Cert.KernelIdeal Cert.KernelIdeal.Facts Cert.KernelIdeal.Gen

/-- The reciprocal root of the mean square of each row. -/
def invV (x : FVec Ideal S512x1024 .f32) : FVec Ideal S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))

/-- The norm with a gain. -/
def normV (x : FVec Ideal S512x1024 .f32) (g : FVec Ideal S1x1024 .f32) : FVec Ideal S512x1024 .f32 :=
  mulf (mulf x (broadcastTo S512x1024 (invV x) broadcasts_S512x1_S512x1024))
    (broadcastTo S512x1024 (shapeCast S1x1024 g shapeCasts_S1x1024_S1x1024) broadcasts_S1x1024_S512x1024)

/-- The router's logits, one column a token. -/
def logitV (hn : FVec Ideal S512x1024 .bf16) (wr : FVec Ideal S64x1024 .bf16) (br : FVec Ideal S32x1 .f32) : FVec Ideal S32x512 .f32 :=
  have l := matmul (DotDims.transposedRhs 64 1024 512) none (shapeCast S64x1024 wr shapeCasts_S64x1024_S64x1024) hn (constant S64x512 .f32 0x00000000#32)
  addf (addf (extractStridedSlice S32x512 ![0, 0] l slices_S64x512_o0_0_S32x512) (extractStridedSlice S32x512 ![32, 0] l slices_S64x512_o32_0_S32x512))
    (broadcastTo S32x512 (shapeCast S32x1 br shapeCasts_S32x1_S32x1) broadcasts_S32x1_S32x512)

/-- The number of each row. -/
def rowV : FVec Ideal S32x512 .f32 := sitofp .f32 (iota .tc S32x512 32 [0] iota_S32x512_d0_w32)
/-- Rows of groups. -/
def isgV : IVec S32x512 1 := cmpf .olt rowV (broadcast S32x512 (Scalar.ofBits .f32 0x40800000#32 : Ideal .f32))
def negV : FVec Ideal S32x512 .f32 := broadcast S32x512 (Scalar.ofBits .f32 0xFF800000#32)
/-- The largest value of each column. -/
def colMax (v : FVec Ideal S32x512 .f32) : FVec Ideal S1x512 .f32 :=
  shapeCast S1x512 (multiReduction .maximumf [0] S512 v 0xFF800000#32 reduces_S32x512_S512 (.inl rfl) rfl) shapeCasts_S512_S1x512
/-- The first row of each column at which it takes a value. -/
def colFirst (v : FVec Ideal S32x512 .f32) (m : FVec Ideal S1x512 .f32) : FVec Ideal S1x512 .f32 :=
  shapeCast S1x512 (multiReduction .minimumf [0] S512
    (select (cmpf .oeq v (broadcastTo S32x512 m broadcasts_S1x512_S32x512)) rowV (broadcast S32x512 (Scalar.ofBits .f32 0x42000000#32)))
    0x7F800000#32 reduces_S32x512_S512 (.inl rfl) rfl) shapeCasts_S512_S1x512
def glV (L : FVec Ideal S32x512 .f32) : FVec Ideal S32x512 .f32 := select isgV L negV
def gidxV (L : FVec Ideal S32x512 .f32) : FVec Ideal S1x512 .f32 := colFirst (glV L) (colMax (glV L))
/-- The weight of the chosen group. -/
def gwV (L : FVec Ideal S32x512 .f32) : FVec Ideal S1x512 .f32 :=
  divf (broadcast S1x512 (Scalar.ofBits .f32 0x3F800000#32))
    (shapeCast S1x512 (multiReduction .add [0] S512
      (select isgV (exp (subf L (broadcastTo S32x512 (colMax (glV L)) broadcasts_S1x512_S32x512))) (broadcast S32x512 (Scalar.ofBits .f32 0x00000000#32)))
      0x00000000#32 reduces_S32x512_S512 (.inl rfl) rfl) shapeCasts_S512_S1x512)
/-- The first row of the chosen group's experts. -/
def loV (gi : FVec Ideal S1x512 .f32) : FVec Ideal S1x512 .f32 :=
  addf (broadcast S1x512 (Scalar.ofBits .f32 0x40800000#32)) (mulf (broadcast S1x512 (Scalar.ofBits .f32 0x40800000#32)) gi)
/-- The logits of the chosen group's experts. -/
def elV (L : FVec Ideal S32x512 .f32) (gi : FVec Ideal S1x512 .f32) : FVec Ideal S32x512 .f32 :=
  select (andi (cmpf .oge rowV (broadcastTo S32x512 (loV gi) broadcasts_S1x512_S32x512))
      (cmpf .olt rowV (broadcastTo S32x512 (addf (loV gi) (broadcast S1x512 (Scalar.ofBits .f32 0x40800000#32))) broadcasts_S1x512_S32x512)))
    L negV
/-- The same without the row already chosen. -/
def dropV (v : FVec Ideal S32x512 .f32) (i : FVec Ideal S1x512 .f32) : FVec Ideal S32x512 .f32 :=
  select (cmpf .oeq rowV (broadcastTo S32x512 i broadcasts_S1x512_S32x512)) negV v
/-- The gates from the weight of the group, the two largest values and the two rows. -/
def gateV (gw m1 i1 m2 i2 : FVec Ideal S1x512 .f32) : FVec Ideal S32x512 .f32 :=
  have e2 := exp (subf m2 m1)
  have w1 := divf (broadcast S1x512 (Scalar.ofBits .f32 0x3F800000#32)) (addf (broadcast S1x512 (Scalar.ofBits .f32 0x3F800000#32)) e2)
  have w2 := mulf e2 w1
  select (cmpf .oeq rowV (broadcastTo S32x512 i1 broadcasts_S1x512_S32x512))
    (broadcastTo S32x512 (shapeCast S1x512 (mulf w1 gw) shapeCasts_S1x512_S1x512) broadcasts_S1x512_S32x512)
    (select (cmpf .oeq rowV (broadcastTo S32x512 i2 broadcasts_S1x512_S32x512))
      (broadcastTo S32x512 (shapeCast S1x512 (mulf w2 gw) shapeCasts_S1x512_S1x512) broadcasts_S1x512_S32x512)
      (broadcast S32x512 (Scalar.ofBits .f32 0x00000000#32)))
def m1V (L : FVec Ideal S32x512 .f32) := colMax (elV L (gidxV L))
def i1V (L : FVec Ideal S32x512 .f32) := colFirst (elV L (gidxV L)) (m1V L)
def el2V (L : FVec Ideal S32x512 .f32) := dropV (elV L (gidxV L)) (i1V L)
def m2V (L : FVec Ideal S32x512 .f32) := colMax (el2V L)
def i2V (L : FVec Ideal S32x512 .f32) := colFirst (el2V L) (m2V L)
def gatesV (L : FVec Ideal S32x512 .f32) : FVec Ideal S32x512 .f32 := gateV (gwV L) (m1V L) (i1V L) (m2V L) (i2V L)

/-- The group of each token, one row a group. -/
def onehotV (gi : FVec Ideal S1x512 .f32) : FVec Ideal S16x512 .f32 :=
  select (cmpf .oeq (sitofp .f32 (iota .tc S16x512 32 [0] iota_S16x512_d0_w32)) (broadcastTo S16x512 gi broadcasts_S1x512_S16x512))
    (broadcast S16x512 (Scalar.ofBits .f32 0x3F800000#32)) (broadcast S16x512 (Scalar.ofBits .f32 0x00000000#32))
/-- How many earlier tokens of the block have the token's group. -/
def rankV (gi : FVec Ideal S1x512 .f32) (u : FVec Ideal S512x512 .bf16) : FVec Ideal S1x512 .f32 :=
  shapeCast S1x512 (multiReduction .add [0] S512
    (mulf (matmul (DotDims.plain 16 512 512) none (truncf .bf16 (onehotV gi) bitsLt_bf16_f32) (shapeCast S512x512 u shapeCasts_S512x512_S512x512) (constant S16x512 .f32 0x00000000#32)) (onehotV gi))
    0x00000000#32 reduces_S16x512_S512 (.inl rfl) rfl) shapeCasts_S512_S1x512
def placedV (gi : FVec Ideal S1x512 .f32) (u : FVec Ideal S512x512 .bf16) : IVec S1x512 1 :=
  cmpf .olt (rankV gi u) (broadcast S1x512 (Scalar.ofBits .f32 0x43200000#32 : Ideal .f32))
/-- The slot of each token. -/
def slotV (gi : FVec Ideal S1x512 .f32) (u : FVec Ideal S512x512 .bf16) : FVec Ideal S1x512 .f32 :=
  select (placedV gi u) (addf (mulf gi (broadcast S1x512 (Scalar.ofBits .f32 0x43200000#32))) (rankV gi u))
    (broadcast S1x512 (Scalar.ofBits .f32 0xBF800000#32))
/-- Which token each slot holds. -/
def selV (sl : FVec Ideal S1x512 .f32) : FVec Ideal S640x512 .bf16 :=
  truncf .bf16 (select (cmpf .oeq (broadcastTo S640x512 sl broadcasts_S1x512_S640x512) (sitofp .f32 (iota .tc S640x512 32 [0] iota_S640x512_d0_w32)))
    (broadcast S640x512 (Scalar.ofBits .f32 0x3F800000#32)) (broadcast S640x512 (Scalar.ofBits .f32 0x00000000#32))) bitsLt_bf16_f32
/-- The tokens on their slots. -/
def xsV (hn : FVec Ideal S512x1024 .bf16) (sl : FVec Ideal S1x512 .f32) : FVec Ideal S640x1024 .bf16 :=
  truncf .bf16 (matmul (DotDims.plain 640 512 1024) none (selV sl) hn (constant S640x1024 .f32 0x00000000#32)) bitsLt_bf16_f32
/-- Gates one row a token. -/
def tokenMajor (g : FVec Ideal S32x512 .f32) : FVec Ideal S512x128 .f32 :=
  transpose S512x128 [1, 0] (concatenate S128x512 0 [⟨S32x512, g⟩, ⟨S96x512, broadcast S96x512 (Scalar.ofBits .f32 0x00000000#32)⟩]
    concatenates_S32x512_S96x512_S128x512_d0) transposes_S128x512_p1_0_S512x128
/-- The gates on their slots. -/
def gsV (g : FVec Ideal S32x512 .f32) (sl : FVec Ideal S1x512 .f32) : FVec Ideal S640x128 .f32 :=
  have t := tokenMajor g
  have hi := truncf .bf16 t bitsLt_bf16_f32
  have lo := truncf .bf16 (subf t (extf .f32 hi bitsLt_bf16_f32)) bitsLt_bf16_f32
  have m := matmul (DotDims.plain 640 512 256) none (selV sl)
    (concatenate S512x256 1 [⟨S512x128, hi⟩, ⟨S512x128, lo⟩] concatenates_S512x128_S512x128_S512x256_d1) (constant S640x256 .f32 0x00000000#32)
  addf (extractStridedSlice S640x128 ![0, 0] m slices_S640x256_o0_0_S640x128) (extractStridedSlice S640x128 ![0, 128] m slices_S640x256_o0_128_S640x128)

/-- One expert on 160 slots. -/
def exp160 (xg : FVec Ideal S160x1024 .bf16) (gate : FVec Ideal S160x1 .f32) (wg wu : FVec Ideal S1x1024x256 .bf16) (wd : FVec Ideal S1x256x1024 .bf16) :
    FVec Ideal S160x1024 .f32 :=
  have hg := matmul (DotDims.plain 160 1024 256) none xg (shapeCast S1024x256 wg shapeCasts_S1x1024x256_S1024x256) (constant S160x256 .f32 0x00000000#32)
  have hu := matmul (DotDims.plain 160 1024 256) none xg (shapeCast S1024x256 wu shapeCasts_S1x1024x256_S1024x256) (constant S160x256 .f32 0x00000000#32)
  have one : FVec Ideal S160x256 .f32 := broadcast S160x256 (Scalar.ofBits .f32 0x3F800000#32)
  have sg := divf one (addf one (exp (subf (broadcast S160x256 (Scalar.ofBits .f32 0x00000000#32)) hg)))
  have act := truncf .bf16 (mulf (mulf (mulf hg sg) hu) (broadcastTo S160x256 gate broadcasts_S160x1_S160x256)) bitsLt_bf16_f32
  matmul (DotDims.plain 160 256 1024) none act (shapeCast S256x1024 wd shapeCasts_S1x256x1024_S256x1024) (constant S160x1024 .f32 0x00000000#32)

/-- One expert on all tokens of the block. -/
def exp512 (x : FVec Ideal S512x1024 .bf16) (gate : FVec Ideal S512x1 .f32) (wg wu : FVec Ideal S1x1024x256 .bf16) (wd : FVec Ideal S1x256x1024 .bf16) :
    FVec Ideal S512x1024 .f32 :=
  have hg := matmul (DotDims.plain 512 1024 256) none x (shapeCast S1024x256 wg shapeCasts_S1x1024x256_S1024x256) (constant S512x256 .f32 0x00000000#32)
  have hu := matmul (DotDims.plain 512 1024 256) none x (shapeCast S1024x256 wu shapeCasts_S1x1024x256_S1024x256) (constant S512x256 .f32 0x00000000#32)
  have one : FVec Ideal S512x256 .f32 := broadcast S512x256 (Scalar.ofBits .f32 0x3F800000#32)
  have sg := divf one (addf one (exp (subf (broadcast S512x256 (Scalar.ofBits .f32 0x00000000#32)) hg)))
  have act := truncf .bf16 (mulf (mulf (mulf hg sg) hu) (broadcastTo S512x256 gate broadcasts_S512x1_S512x256)) bitsLt_bf16_f32
  matmul (DotDims.plain 512 256 1024) none act (shapeCast S256x1024 wd shapeCasts_S1x256x1024_S256x1024) (constant S512x1024 .f32 0x00000000#32)

/-- The weights of the three layers of one expert. -/
def ldIn (w : FVec Ideal S16x1024x256 .bf16) (k : Fin 16) : FVec Ideal S1x1024x256 .bf16 :=
  View.ld (Val := Elt Ideal) (e' := .bf16) w (Rect.unit (s := S16x1024x256) ![k.val, 0, 0] S1x1024x256.size (by
    intro a; fin_cases a
    · show k.val + 1 ≤ 16; omega
    · exact Nat.le_refl _
    · exact Nat.le_refl _))
def ldOut (w : FVec Ideal S16x256x1024 .bf16) (k : Fin 16) : FVec Ideal S1x256x1024 .bf16 :=
  View.ld (Val := Elt Ideal) (e' := .bf16) w (Rect.unit (s := S16x256x1024) ![k.val, 0, 0] S1x256x1024.size (by
    intro a; fin_cases a
    · show k.val + 1 ≤ 16; omega
    · exact Nat.le_refl _
    · exact Nat.le_refl _))

/-- The slots of a group. -/
def xgV (xs : FVec Ideal S640x1024 .bf16) (g : Fin 4) : FVec Ideal S160x1024 .bf16 :=
  extractStridedSlice S160x1024 ![160 * g.val, 0] xs (by
    fin_cases g
    · exact slices_S640x1024_o0_0_S160x1024
    · exact slices_S640x1024_o160_0_S160x1024
    · exact slices_S640x1024_o320_0_S160x1024
    · exact slices_S640x1024_o480_0_S160x1024)
/-- The column of an expert's gates, on the slots of its group. -/
def gcV (gs : FVec Ideal S640x128 .f32) (g j : Fin 4) : FVec Ideal S160x1 .f32 :=
  extractStridedSlice S160x1 ![160 * g.val, 4 + (4 * g.val + j.val)] gs ⟨rfl, by
    intro a; fin_cases a
    · show 160 * g.val + 160 ≤ 640; omega
    · show 4 + (4 * g.val + j.val) + 1 ≤ 128; omega⟩
/-- The column of an expert's gates, on the tokens. -/
def lcV (gs : FVec Ideal S512x128 .f32) (g j : Fin 4) : FVec Ideal S512x1 .f32 :=
  extractStridedSlice S512x1 ![0, 4 + (4 * g.val + j.val)] gs ⟨rfl, by
    intro a; fin_cases a
    · exact Nat.le_refl _
    · show 4 + (4 * g.val + j.val) + 1 ≤ 128; omega⟩
/-- The number of expert `j` of group `g`. -/
def eix (g j : Fin 4) : Fin 16 := ⟨4 * g.val + j.val, by omega⟩

/-- The four experts of a group on its slots. -/
def grpV (xs : FVec Ideal S640x1024 .bf16) (gs : FVec Ideal S640x128 .f32) (wg wu : FVec Ideal S16x1024x256 .bf16) (wd : FVec Ideal S16x256x1024 .bf16)
    (g : Fin 4) : FVec Ideal S160x1024 .f32 :=
  have e := fun j : Fin 4 => exp160 (xgV xs g) (gcV gs g j) (ldIn wg (eix g j)) (ldIn wu (eix g j)) (ldOut wd (eix g j))
  addf (addf (addf (e 0) (e 1)) (e 2)) (e 3)

/-- The tokens' own slots, returned. -/
def backV (x : FVec Ideal S512x1024 .f32) (sl : FVec Ideal S1x512 .f32) (y : Fin 4 → FVec Ideal S160x1024 .f32) : FVec Ideal S512x1024 .f32 :=
  addf (shapeCast S512x1024 x shapeCasts_S512x1024_S512x1024) (matmul dot_S640x512_S640x1024_S512x1024_0_0_1_1_n_n none (selV sl)
    (concatenate S640x1024 0 [⟨S160x1024, truncf .bf16 (y 0) bitsLt_bf16_f32⟩, ⟨S160x1024, truncf .bf16 (y 1) bitsLt_bf16_f32⟩,
      ⟨S160x1024, truncf .bf16 (y 2) bitsLt_bf16_f32⟩, ⟨S160x1024, truncf .bf16 (y 3) bitsLt_bf16_f32⟩]
      concatenates_S160x1024_S160x1024_S160x1024_S160x1024_S640x1024_d0) (constant S512x1024 .f32 0x00000000#32))

theorem count_slices (g : Fin 4) : S16x512.Slices ![g.val, 0] S1x512 := ⟨rfl, by
  intro a; fin_cases a
  · show g.val + 1 ≤ 16; omega
  · exact Nat.le_refl _⟩

/-- How many tokens of the block have group `g`. -/
def countV (oh : FVec Ideal S16x512 .f32) (g : Fin 4) : Ideal .f32 :=
  extractAt ![0, 0, 0] (shapeCast S1x1x1 (multiReduction .add [1, 2] S1 (shapeCast S1x1x512 (extractStridedSlice S1x512 ![g.val, 0] oh (count_slices g)) shapeCasts_S1x512_S1x1x512) 0x00000000#32 reduces_S1x1x512_S1 (.inl rfl) rfl) shapeCasts_S1_S1x1x1)
    inpos_S1x1x1_p0_0_0

/-- The gates of the tokens that have no slot. -/
def leftV (p : IVec S1x512 1) (g : FVec Ideal S32x512 .f32) : FVec Ideal S512x128 .f32 :=
  tokenMajor (select (broadcastTo S32x512 (shapeCast S1x512 p shapeCasts_S1x512_S1x512) broadcasts_S1x512_S32x512)
    (broadcast S32x512 (Scalar.ofBits .f32 0x00000000#32)) g)

/-- The four experts of a group on the tokens that have no slot. -/
def overV (b : FVec Ideal S512x1024 .f32) (hn : FVec Ideal S512x1024 .bf16) (lg : FVec Ideal S512x128 .f32) (wg wu : FVec Ideal S16x1024x256 .bf16)
    (wd : FVec Ideal S16x256x1024 .bf16) (g : Fin 4) : FVec Ideal S512x1024 .f32 :=
  have e := fun j : Fin 4 => exp512 hn (lcV lg g j) (ldIn wg (eix g j)) (ldIn wu (eix g j)) (ldOut wd (eix g j))
  addf (shapeCast S512x1024 b shapeCasts_S512x1024_S512x1024) (addf (addf (addf (e 0) (e 1)) (e 2)) (e 3))

/-- Whether a group overflows. -/
def moreV (oh : FVec Ideal S16x512 .f32) (g : Fin 4) : Prop :=
  Scalar.cmpi .ne (Scalar.extui (Scalar.cmpf .ogt (countV oh g) (Scalar.ofBits .f32 0x43200000#32)) : BitVec 32) 0#32 = 1#1
instance (oh : FVec Ideal S16x512 .f32) (g : Fin 4) : Decidable (moreV oh g) := by unfold moreV; infer_instance

/-- The block after the overflow of group `g`. -/
def stepV (b : FVec Ideal S512x1024 .f32) (hn : FVec Ideal S512x1024 .bf16) (oh : FVec Ideal S16x512 .f32) (lg : FVec Ideal S512x128 .f32)
    (wg wu : FVec Ideal S16x1024x256 .bf16) (wd : FVec Ideal S16x256x1024 .bf16) (g : Fin 4) : FVec Ideal S512x1024 .f32 :=
  if moreV oh g then overV b hn lg wg wu wd g else b

/-- The block through the mixture of experts. -/
def blockV (x : FVec Ideal S512x1024 .f32) (g : FVec Ideal S1x1024 .f32) (wr : FVec Ideal S64x1024 .bf16) (br : FVec Ideal S32x1 .f32)
    (u : FVec Ideal S512x512 .bf16) (wg wu : FVec Ideal S16x1024x256 .bf16) (wd : FVec Ideal S16x256x1024 .bf16) : FVec Ideal S512x1024 .f32 :=
  have hn : FVec Ideal S512x1024 .bf16 := truncf .bf16 (normV x g) bitsLt_bf16_f32
  have L := logitV hn wr br
  have gi := gidxV L
  have sl := slotV gi u
  have oh := onehotV gi
  have lg := leftV (placedV gi u) (gatesV L)
  stepV (stepV (stepV (stepV (backV x sl (grpV (xsV hn sl) (gsV (gatesV L) sl) wg wu wd)) hn oh lg wg wu wd 0) hn oh lg wg wu wd 1) hn oh lg wg wu wd 2)
    hn oh lg wg wu wd 3

end Cert.Moe
-- ==== Proof.Moe.Const.lean ====
module
/- The constants as numbers. -/
public import Idealize.ShloMosaic.Lib.Pointwise
@[expose] public section
noncomputable section
namespace Cert.Moe
open Idealize.ShloMosaic

/-- A group's row, an expert's row. -/
theorem row4 (j : Fin 4) : j.val < 32 := by omega
theorem row16 (e : Fin 16) : 4 + e.val < 32 := by omega

theorem c4 : (Ideal.ofBits FTy.f32 0x40800000#32 : EReal) = ((4 : ℝ) : EReal) := by
  simp [Ideal.ofBits, Ideal.ieee, -EReal.coe_mul, -EReal.coe_neg]; norm_num
theorem c32 : (Ideal.ofBits FTy.f32 0x42000000#32 : EReal) = ((32 : ℝ) : EReal) := by
  simp [Ideal.ofBits, Ideal.ieee, -EReal.coe_mul, -EReal.coe_neg]; norm_num
theorem c160 : (Ideal.ofBits FTy.f32 0x43200000#32 : EReal) = ((160 : ℝ) : EReal) := by
  simp [Ideal.ofBits, Ideal.ieee, -EReal.coe_mul, -EReal.coe_neg]; norm_num
theorem cm1 : (Ideal.ofBits FTy.f32 0xBF800000#32 : EReal) = ((-1 : ℝ) : EReal) := by
  simp [Ideal.ofBits, Ideal.ieee, -EReal.coe_mul, -EReal.coe_neg]; norm_num
theorem c1024 : (Ideal.ofBits FTy.f32 0x44800000#32 : EReal) = ((1024 : ℝ) : EReal) := by
  simp [Ideal.ofBits, Ideal.ieee, -EReal.coe_mul, -EReal.coe_neg]; norm_num
theorem ctop : (Ideal.ofBits FTy.f32 0x7F800000#32 : EReal) = ⊤ := by
  simp [Ideal.ofBits, Ideal.ieee]
theorem cbot : (Ideal.ofBits FTy.f32 0xFF800000#32 : EReal) = ⊥ := by
  simp [Ideal.ofBits, Ideal.ieee]
theorem ceps : ∃ e : ℝ, 0 < e ∧ (Ideal.ofBits FTy.f32 0x358637BD#32 : EReal) = (e : EReal) := by
  refine ⟨(8796093 : ℝ) * (2 : ℝ) ^ (-43 : ℤ), by positivity, ?_⟩
  simp [Ideal.ofBits, Ideal.ieee, -EReal.coe_mul]
/-- A row's number. -/
theorem row_num {n : ℕ} (h : n < 2 ^ 31) : (FloatOps.sitofp (F := Ideal) FTy.f32 (BitVec.ofNat 32 n) : EReal) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp
end Cert.Moe
-- ==== Proof.Moe.Spec.lean ====
module
/- One expert on one token. -/
public import Idealize.ShloMosaic.Lib.Pointwise
@[expose] public section
noncomputable section
namespace Cert.Moe
open Idealize.ShloMosaic

/-- One expert on one token, weighted by a gate. -/
def ex (hn : Fin 1024 → EReal) (gate : EReal) (wg wu : Fin 1024 → Fin 256 → EReal) (wd : Fin 256 → Fin 1024 → EReal) (d : Fin 1024) : EReal :=
  ∑ f, ((∑ a, hn a * wg a f) * Ideal.div 1 (1 + Ideal.exp (0 - ∑ a, hn a * wg a f)) * (∑ a, hn a * wu a f)) * gate * wd f d

/-- An expert with the gate zero adds nothing. -/
theorem ex_zero (hn : Fin 1024 → EReal) (wg wu : Fin 1024 → Fin 256 → EReal) (wd : Fin 256 → Fin 1024 → EReal) (d : Fin 1024) :
    ex hn 0 wg wu wd d = 0 := by
  unfold ex; simp

end Cert.Moe
-- ==== Proof.Moe.Read.lean ====
module
/- The norm, the logits and the choice of experts read at an index. -/
public import proofs.«01_k».proof.Proof.Moe.Vec
public import proofs.«01_k».proof.Proof.Moe.Const
public import proofs.«01_k».proof.Proof.Moe.First
public import proofs.«01_k».proof.Proof.Moe.Spec
@[expose] public section
noncomputable section
namespace Cert.Moe
open Idealize.ShloMosaic
open Cert.KernelIdeal Cert.KernelIdeal.Facts Cert.KernelIdeal.Gen

/-- One entry of the norm of a row, with its gain. -/
def nrm (x : Fin 1024 → EReal) (g : EReal) (d : Fin 1024) : EReal :=
  x d * Ideal.rsqrt (Ideal.div (∑ a, x a * x a) (Ideal.ofBits FTy.f32 0x44800000#32) + Ideal.ofBits FTy.f32 0x358637BD#32) * g

theorem normV_apply (x : FVec Ideal S512x1024 .f32) (g : FVec Ideal S1x1024 .f32) (t : Fin 512) (d : Fin 1024) :
    normV x g (ix2 t d) = nrm (fun a => x (ix2 t a)) (g (ix2 0 d)) d := by
  pointwise [normV, invV, nrm]

theorem logitV_apply (hn : FVec Ideal S512x1024 .bf16) (wr : FVec Ideal S64x1024 .bf16) (br : FVec Ideal S32x1 .f32) (r : Fin 32) (t : Fin 512) :
    logitV hn wr br (ix2 r t) = ∑ a, wr (ix2 ⟨r, by omega⟩ a) * hn (ix2 t a) + ∑ a, wr (ix2 ⟨32 + r, by omega⟩ a) * hn (ix2 t a) + br (ix2 r 0) := by
  pointwise [logitV]

theorem glV_apply (L : FVec Ideal S32x512 .f32) (r : Fin 32) (t : Fin 512) : glV L (ix2 r t) = if r.val < 4 then L (ix2 r t) else ⊥ := by
  pointwise [glV, isgV, rowV, negV]
  rw [row_num (by omega), c4, cbot]
  refine if_congr ?_ rfl rfl
  exact_mod_cast Iff.rfl

theorem colMax_apply (v : FVec Ideal S32x512 .f32) (t : Fin 512) : colMax v (ix2 0 t) = Finset.univ.sup fun r => v (ix2 r t) := by
  pointwise [colMax]
  rw [cbot]; rfl

theorem colFirst_apply (v : FVec Ideal S32x512 .f32) (m : FVec Ideal S1x512 .f32) (t : Fin 512) :
    colFirst v m (ix2 0 t) = Finset.univ.inf fun r => if v (ix2 r t) = m (ix2 0 t) then ((r.val : ℝ) : EReal) else ((32 : ℝ) : EReal) := by
  pointwise [colFirst, rowV]
  rw [ctop, c32]
  refine Finset.fold_congr fun r _ => ?_
  rw [row_num (by omega)]

/-- The sum over the rows of groups. -/
def headSum (f : Fin 32 → EReal) : EReal := ∑ r, if r.val < 4 then f r else 0
theorem headSum_eq (f : Fin 32 → EReal) : headSum f = ∑ j : Fin 4, f ⟨j.val, by omega⟩ := by
  unfold headSum
  rw [Fin.sum_univ_add (a := 4) (b := 28) (fun r : Fin (4 + 28) => if r.val < 4 then f r else 0)]
  simp
  rfl

theorem gwV_apply (L : FVec Ideal S32x512 .f32) (t : Fin 512) :
    gwV L (ix2 0 t) = Ideal.div 1 (headSum fun r => Ideal.exp (L (ix2 r t) - colMax (glV L) (ix2 0 t))) := by
  pointwise [gwV, isgV, rowV]
  refine congrArg (Ideal.div 1) (Finset.sum_congr rfl fun r _ => ?_)
  rw [row_num (by omega), c4]
  refine if_congr ?_ rfl rfl
  exact_mod_cast Iff.rfl

theorem elV_apply (L : FVec Ideal S32x512 .f32) (gi : FVec Ideal S1x512 .f32) (r : Fin 32) (t : Fin 512) (k : ℕ) (hk : gi (ix2 0 t) = ((k : ℝ) : EReal)) :
    elV L gi (ix2 r t) = if 4 + 4 * k ≤ r.val ∧ r.val < 4 + 4 * k + 4 then L (ix2 r t) else ⊥ := by
  pointwise [elV, loV, rowV, negV]
  rw [row_num (by omega), c4, cbot, hk]
  have e1 : (((4 : ℝ) : EReal) + ((4 : ℝ) : EReal) * ((k : ℝ) : EReal)) = (((4 + 4 * k : ℕ) : ℝ) : EReal) := by push_cast; rfl
  have e2 : (((4 + 4 * k : ℕ) : ℝ) : EReal) + ((4 : ℝ) : EReal) = (((4 + 4 * k + 4 : ℕ) : ℝ) : EReal) := by push_cast; rfl
  rw [e1, e2]
  simp only [EReal.coe_le_coe_iff, EReal.coe_lt_coe_iff, Nat.cast_le, Nat.cast_lt]
  by_cases h1 : 4 + 4 * k ≤ r.val <;> by_cases h2 : r.val < 4 + 4 * k + 4 <;> simp [h1, h2, IntOp.andi, Scalar.select]

theorem dropV_apply (v : FVec Ideal S32x512 .f32) (i : FVec Ideal S1x512 .f32) (r : Fin 32) (t : Fin 512) (p : ℕ) (hp : i (ix2 0 t) = ((p : ℝ) : EReal)) :
    dropV v i (ix2 r t) = if r.val = p then ⊥ else v (ix2 r t) := by
  pointwise [dropV, rowV, negV]
  rw [row_num (by omega), cbot, hp]
  refine if_congr ?_ rfl rfl
  exact_mod_cast Iff.rfl

theorem gateV_apply (gw m1 i1 m2 i2 : FVec Ideal S1x512 .f32) (r : Fin 32) (t : Fin 512) (p1 p2 : ℕ) (h1 : i1 (ix2 0 t) = ((p1 : ℝ) : EReal))
    (h2 : i2 (ix2 0 t) = ((p2 : ℝ) : EReal)) :
    gateV gw m1 i1 m2 i2 (ix2 r t) =
      if r.val = p1 then Ideal.div 1 (1 + Ideal.exp (m2 (ix2 0 t) - m1 (ix2 0 t))) * gw (ix2 0 t)
      else if r.val = p2 then
        Ideal.exp (m2 (ix2 0 t) - m1 (ix2 0 t)) * Ideal.div 1 (1 + Ideal.exp (m2 (ix2 0 t) - m1 (ix2 0 t))) * gw (ix2 0 t)
      else 0 := by
  pointwise [gateV, rowV]
  rw [row_num (by omega), h1, h2]
  refine if_congr ?_ rfl (if_congr ?_ rfl rfl)
  · exact_mod_cast Iff.rfl
  · exact_mod_cast Iff.rfl

theorem colMax_first (v : FVec Ideal S32x512 .f32) (t : Fin 512) (p : Fin 32) (h : IsFirst (fun r => v (ix2 r t)) p) : colMax v (ix2 0 t) = v (ix2 p t) := by
  rw [colMax_apply]; exact sup_eq _ p h.1
theorem colFirst_first (v : FVec Ideal S32x512 .f32) (t : Fin 512) (p : Fin 32) (h : IsFirst (fun r => v (ix2 r t)) p) :
    colFirst v (colMax v) (ix2 0 t) = ((p.val : ℝ) : EReal) := by
  rw [colFirst_apply, colMax_first v t p h]
  refine inf_eq (fun r => v (ix2 r t)) p h _ ?_
  have := p.isLt
  exact_mod_cast this.le

end Cert.Moe
-- ==== Proof.Moe.Choice.lean ====
module
/- The gates of a token: the first largest of four groups, the two largest of its four experts, and the weights. -/
public import proofs.«01_k».proof.Proof.Moe.Read
@[expose] public section
noncomputable section
namespace Cert.Moe
open Idealize.ShloMosaic
open Cert.KernelIdeal Cert.KernelIdeal.Facts Cert.KernelIdeal.Gen

/-- The weight of the chosen group. -/
def gwOf (gl : Fin 4 → ℝ) (k : Fin 4) : ℝ := 1 / ∑ j, Real.exp (gl j - gl k)
/-- The weight of the first expert against the second. -/
def w1Of (el : Fin 16 → ℝ) (k i1 i2 : Fin 4) : ℝ := 1 / (1 + Real.exp (el (eix k i2) - el (eix k i1)))
/-- The gates: two experts of one group have one, the others none. -/
def gateOf (gl : Fin 4 → ℝ) (el : Fin 16 → ℝ) (k i1 i2 : Fin 4) (e : Fin 16) : ℝ :=
  if e = eix k i1 then w1Of el k i1 i2 * gwOf gl k
  else if e = eix k i2 then Real.exp (el (eix k i2) - el (eix k i1)) * w1Of el k i1 i2 * gwOf gl k else 0

theorem gateOf_group (gl : Fin 4 → ℝ) (el : Fin 16 → ℝ) (k i1 i2 g j : Fin 4) (h : g ≠ k) : gateOf gl el k i1 i2 (eix g j) = 0 := by
  have hne : ∀ i, eix g j ≠ eix k i := by
    intro i he
    have := congrArg Fin.val he
    simp only [eix] at this
    exact h (Fin.ext (by omega))
  rw [gateOf, if_neg (hne i1), if_neg (hne i2)]

theorem div_real (a b : ℝ) (h : b ≠ 0) : Ideal.div (a : EReal) (b : EReal) = ((a / b : ℝ) : EReal) := by
  unfold Ideal.div
  rw [if_neg (by exact_mod_cast h), div_eq_mul_inv, EReal.coe_mul, EReal.coe_inv]
theorem exp_real (a : ℝ) : Ideal.exp (a : EReal) = ((Real.exp a : ℝ) : EReal) := rfl

/-- Four values among 32 rows, the others below them: the first largest stays the first largest. -/
theorem first_of (v : Fin 32 → EReal) (b : ℕ) (hb : b + 4 ≤ 32) (w : Fin 4 → EReal) (k : Fin 4) (hin : ∀ j : Fin 4, v ⟨b + j.val, by omega⟩ = w j)
    (hout : ∀ r : Fin 32, ¬(b ≤ r.val ∧ r.val < b + 4) → v r = ⊥) (h : IsFirst w k) (hk : ⊥ < w k) : IsFirst v ⟨b + k.val, by omega⟩ := by
  constructor
  · intro r
    rw [hin]
    by_cases hr : b ≤ r.val ∧ r.val < b + 4
    · have : v r = w ⟨r.val - b, by omega⟩ := by rw [← hin]; congr 1; ext; simp; omega
      rw [this]; exact h.1 _
    · rw [hout r hr]; exact bot_le
  · intro r hlt
    rw [hin]
    by_cases hr : b ≤ r.val ∧ r.val < b + 4
    · have : v r = w ⟨r.val - b, by omega⟩ := by rw [← hin]; congr 1; ext; simp; omega
      rw [this]; refine h.2 _ ?_
      have hlt' : r.val < b + k.val := hlt
      show r.val - b < k.val
      omega
    · rw [hout r hr]; exact hk

theorem first_coe (w : Fin 4 → ℝ) (k : Fin 4) (h : IsFirst w k) : IsFirst (fun j => (w j : EReal)) k :=
  ⟨fun j => EReal.coe_le_coe_iff.mpr (h.1 j), fun j hj => EReal.coe_lt_coe_iff.mpr (h.2 j hj)⟩

section
variable (L : FVec Ideal S32x512 .f32) (t : Fin 512) (gl : Fin 4 → ℝ) (el : Fin 16 → ℝ)
  (hg : ∀ j : Fin 4, L (ix2 ⟨j.val, row4 j⟩ t) = (gl j : EReal)) (he : ∀ e : Fin 16, L (ix2 ⟨4 + e.val, row16 e⟩ t) = (el e : EReal))
  (k i1 i2 : Fin 4) (h1 : IsFirst gl k) (h2 : IsFirst (fun j => el (eix k j)) i1) (h3 : IsSecond (fun j => el (eix k j)) i1 i2)
include hg h1
theorem gl_first : IsFirst (fun r => glV L (ix2 r t)) ⟨k.val, by omega⟩ := by
  have := first_of (fun r => glV L (ix2 r t)) 0 (by omega) (fun j => (gl j : EReal)) k (fun j => ?_) (fun r hr => ?_) (first_coe gl k h1) (EReal.bot_lt_coe _)
  · simpa using this
  · show glV L (ix2 _ t) = _
    rw [glV_apply, if_pos (by simp), ← hg j]; congr 2; ext; simp
  · show glV L (ix2 _ t) = _
    rw [glV_apply, if_neg (by omega)]
theorem gidx_val : gidxV L (ix2 0 t) = ((k.val : ℝ) : EReal) := colFirst_first _ t _ (gl_first L t gl hg k h1)
theorem gw_val : gwV L (ix2 0 t) = ((gwOf gl k : ℝ) : EReal) := by
  rw [gwV_apply, colMax_first _ t _ (gl_first L t gl hg k h1), glV_apply, if_pos (by simp)]
  have e : (headSum fun r => Ideal.exp (L (ix2 r t) - L (ix2 ⟨k.val, by omega⟩ t))) = ((∑ j, Real.exp (gl j - gl k) : ℝ) : EReal) := by
    have hs : ∀ j : Fin 4, Ideal.exp (L (ix2 ⟨j.val, by omega⟩ t) - L (ix2 ⟨k.val, by omega⟩ t)) = ((Real.exp (gl j - gl k) : ℝ) : EReal) := fun j => by
      rw [hg, hg, ← EReal.coe_sub, exp_real]
    rw [headSum_eq]
    simp only [hs, Fin.sum_univ_four, EReal.coe_add]
  have hpos : (∑ j, Real.exp (gl j - gl k) : ℝ) ≠ 0 := (Finset.sum_pos (fun j _ => Real.exp_pos _) ⟨0, Finset.mem_univ _⟩).ne'
  rw [e, show (1 : EReal) = ((1 : ℝ) : EReal) from rfl, div_real _ _ hpos, gwOf]
include he h2
theorem el_val (j : Fin 4) : elV L (gidxV L) (ix2 ⟨4 + 4 * k.val + j.val, by omega⟩ t) = (el (eix k j) : EReal) := by
  rw [elV_apply L _ _ t k.val (gidx_val L t gl hg k h1), if_pos (by simp), ← he]
  congr 2; ext; simp [eix]; omega
theorem el_out (r : Fin 32) (hr : ¬(4 + 4 * k.val ≤ r.val ∧ r.val < 4 + 4 * k.val + 4)) : elV L (gidxV L) (ix2 r t) = ⊥ := by
  rw [elV_apply L _ _ t k.val (gidx_val L t gl hg k h1), if_neg hr]
theorem el_first : IsFirst (fun r => elV L (gidxV L) (ix2 r t)) ⟨4 + 4 * k.val + i1.val, by omega⟩ :=
  first_of _ (4 + 4 * k.val) (by omega) (fun j => (el (eix k j) : EReal)) i1 (el_val L t gl el hg he k i1 h1 h2) (el_out L t gl el hg he k i1 h1 h2)
    (first_coe _ i1 h2) (EReal.bot_lt_coe _)
theorem i1_val : i1V L (ix2 0 t) = (((4 + 4 * k.val + i1.val : ℕ) : ℝ) : EReal) := colFirst_first _ t _ (el_first L t gl el hg he k i1 h1 h2)
theorem m1_val : m1V L (ix2 0 t) = (el (eix k i1) : EReal) :=
  (colMax_first _ t _ (el_first L t gl el hg he k i1 h1 h2)).trans (el_val L t gl el hg he k i1 h1 h2 i1)
theorem el2_val (j : Fin 4) : el2V L (ix2 ⟨4 + 4 * k.val + j.val, by omega⟩ t) = if j = i1 then ⊥ else (el (eix k j) : EReal) := by
  rw [el2V, dropV_apply _ _ _ t _ (i1_val L t gl el hg he k i1 h1 h2), el_val L t gl el hg he k i1 h1 h2]
  refine if_congr ?_ rfl rfl
  rw [Fin.ext_iff]; simp
include h3
theorem el2_first : IsFirst (fun r => el2V L (ix2 r t)) ⟨4 + 4 * k.val + i2.val, by omega⟩ := by
  refine first_of _ (4 + 4 * k.val) (by omega) (fun j => if j = i1 then ⊥ else (el (eix k j) : EReal)) i2 (el2_val L t gl el hg he k i1 h1 h2) (fun r hr => ?_) ⟨fun j => ?_, fun j hj => ?_⟩ ?_
  · show el2V L (ix2 _ t) = _
    rw [el2V, dropV_apply _ _ _ t _ (i1_val L t gl el hg he k i1 h1 h2), el_out L t gl el hg he k i1 h1 h2 r hr, ite_self]
  · show (if j = i1 then ⊥ else (el (eix k j) : EReal)) ≤ if i2 = i1 then ⊥ else (el (eix k i2) : EReal)
    rw [if_neg h3.1]
    by_cases hj : j = i1
    · rw [if_pos hj]; exact bot_le
    · rw [if_neg hj]; exact EReal.coe_le_coe_iff.mpr (h3.2.1 j hj)
  · show (if j = i1 then ⊥ else (el (eix k j) : EReal)) < if i2 = i1 then ⊥ else (el (eix k i2) : EReal)
    rw [if_neg h3.1]
    by_cases hj' : j = i1
    · rw [if_pos hj']; exact EReal.bot_lt_coe _
    · rw [if_neg hj']; exact EReal.coe_lt_coe_iff.mpr (h3.2.2 j hj' hj)
  · show ⊥ < if i2 = i1 then ⊥ else (el (eix k i2) : EReal)
    rw [if_neg h3.1]; exact EReal.bot_lt_coe _
theorem i2_val : i2V L (ix2 0 t) = (((4 + 4 * k.val + i2.val : ℕ) : ℝ) : EReal) := colFirst_first _ t _ (el2_first L t gl el hg he k i1 i2 h1 h2 h3)
theorem m2_val : m2V L (ix2 0 t) = (el (eix k i2) : EReal) := by
  refine (colMax_first _ t _ (el2_first L t gl el hg he k i1 i2 h1 h2 h3)).trans ((el2_val L t gl el hg he k i1 h1 h2 i2).trans ?_)
  rw [if_neg h3.1]
/-- The gates the vector program computes. -/
theorem gates_val (e : Fin 16) : gatesV L (ix2 ⟨4 + e.val, row16 e⟩ t) = (gateOf gl el k i1 i2 e : EReal) := by
  rw [gatesV, gateV_apply _ _ _ _ _ _ t _ _ (i1_val L t gl el hg he k i1 h1 h2) (i2_val L t gl el hg he k i1 i2 h1 h2 h3),
    m1_val L t gl el hg he k i1 h1 h2, m2_val L t gl el hg he k i1 i2 h1 h2 h3, gw_val L t gl hg k h1, ← EReal.coe_sub, exp_real,
    show (1 : EReal) = ((1 : ℝ) : EReal) from rfl, ← EReal.coe_add, div_real _ _ (by positivity), ← EReal.coe_mul, ← EReal.coe_mul, ← EReal.coe_mul, gateOf]
  have c : ∀ i : Fin 4, (4 + e.val = 4 + 4 * k.val + i.val) ↔ e = eix k i := fun i => by
    rw [Fin.ext_iff]; simp only [eix]; omega
  simp only [c]
  split_ifs <;> simp [w1Of]
end
end Cert.Moe
-- ==== Proof.Moe.RefGates.lean ====
module
/- The reference's gates: the first largest of the four groups, the two largest of its four experts, and their weights. -/
public import proofs.«01_k».proof.Proof.Moe.Gather
public import proofs.«01_k».proof.Proof.Moe.TopK
public import proofs.«01_k».proof.Proof.Moe.Choice
@[expose] public section
noncomputable section
namespace Cert.Moe.Ref
open Idealize.ShloMosaic
open Cert.ReferenceIdeal Cert.ReferenceIdeal.Gen

section
variable (n : Fin 32768) (k : Fin 4)
theorem insideR_val (i : IVec S32768x1x1 32) (h : i (ix3 n 0 0) = BitVec.ofNat 32 k.val) : insideR i (ix2 n 0) = 1#1 := by
  pointwise [insideR]
  rw [Finset.univ_unique, Finset.fold_singleton]
  show IntOp.andi (IntOp.andi (IntOp.cmpi .sge (i (ix3 n 0 0)) 0#32) (IntOp.cmpi .sle (i (ix3 n 0 0)) 3#32)) 1#1 = 1#1
  rw [h]
  clear h
  revert k; decide
theorem wrap_word (w : BitVec 32) (h : w = BitVec.ofNat 32 k.val) :
    Scalar.select (IntOp.cmpi CmpIPredicate.slt w 0#32) (IntOp.addi w 4#32) w = BitVec.ofNat 32 k.val := by
  subst h
  revert k; decide
theorem wrap3R_val (i : IVec S32768x1x1 32) (h : i (ix3 n 0 0) = BitVec.ofNat 32 k.val) : wrap3R i (ix3 n 0 0) = BitVec.ofNat 32 k.val := by
  pointwise [wrap3R]
  exact wrap_word k _ h
theorem wrapR_val (i : IVec S32768x1 32) (h : i (ix2 n 0) = BitVec.ofNat 32 k.val) : wrapR i (ix3 n 0 0) = BitVec.ofNat 32 k.val := by
  pointwise [wrapR]
  exact wrap_word k _ h
theorem pickR_val (i : IVec S32768x1x1 32) (p : FVec Ideal S32768x4 .f32) (h : i (ix3 n 0 0) = BitVec.ofNat 32 k.val) : pickR p i (ix2 n 0) = p (ix2 n k) := by
  pointwise [pickR]
  rw [insideR_val n k i h, gather_one p i n k h]; rfl
theorem pick4R_val (i : IVec S32768x1x1 32) (p : FVec Ideal S32768x4x4 .f32) (j : Fin 4) (h : i (ix3 n 0 0) = BitVec.ofNat 32 k.val) :
    pick4R p i (ix3 n 0 j) = p (ix3 n k j) := by
  pointwise [pick4R]
  rw [insideR_val n k i h, gather_four p i n k j h]; rfl
end

theorem fold_max (m : ℕ) (v : Fin m → EReal) (k : Fin m) (h : ∀ j, v j ≤ v k) :
    max (Ideal.ofBits FTy.f32 0xFF800000#32) (Finset.fold max (Ideal.ofBits FTy.f32 0xFF800000#32) v Finset.univ) = v k := by
  rw [cbot, max_eq_right bot_le]
  exact sup_eq v k h
theorem exp4R_val (p : FVec Ideal S32768x4 .f32) (n : Fin 32768) (k j : Fin 4) (h : ∀ j, (p (ix2 n j) : EReal) ≤ p (ix2 n k)) :
    exp4R p (ix2 n j) = Ideal.exp (p (ix2 n j) - p (ix2 n k)) := by
  pointwise [exp4R]
  rw [fold_max 4 (fun j => p (ix2 n j)) k h]
theorem exp2R_val (p : FVec Ideal S32768x2 .f32) (n : Fin 32768) (k j : Fin 2) (h : ∀ j, (p (ix2 n j) : EReal) ≤ p (ix2 n k)) :
    exp2R p (ix2 n j) = Ideal.exp (p (ix2 n j) - p (ix2 n k)) := by
  pointwise [exp2R]
  rw [fold_max 2 (fun j => p (ix2 n j)) k h]

section
variable (G : FVec Ideal S32768x4 .f32) (E : FVec Ideal S32768x16 .f32) (n : Fin 32768) (gl : Fin 4 → ℝ) (el : Fin 16 → ℝ)
  (hg : ∀ j, G (ix2 n j) = (gl j : EReal)) (he : ∀ e, E (ix2 n e) = (el e : EReal))

theorem first_real (x : FVec Ideal S32768x4 .f32) (v : Fin 4 → ℝ) (h : ∀ j, x (ix2 n j) = (v j : EReal)) : IsFirst v (ord x n 0) := by
  have := top_first fun j => (x (ix2 n j) : EReal)
  simp only [h] at this
  have e : ord x n 0 = sortedFrom (larger fun j => (v j : EReal)) 0 := by unfold ord; simp only [h]
  rw [e]
  exact ⟨fun j => EReal.coe_le_coe_iff.mp (this.1 j), fun j hj => EReal.coe_lt_coe_iff.mp (this.2 j hj)⟩
theorem second_real (x : FVec Ideal S32768x4 .f32) (v : Fin 4 → ℝ) (h : ∀ j, x (ix2 n j) = (v j : EReal)) : IsSecond v (ord x n 0) (ord x n 1) := by
  have := top_second fun j => (x (ix2 n j) : EReal)
  simp only [h] at this
  have e : ord x n = sortedFrom (larger fun j => (v j : EReal)) := by unfold ord; simp only [h]
  rw [e]
  exact ⟨this.1, fun j hj => EReal.coe_le_coe_iff.mp (this.2.1 j hj), fun j hj hl => EReal.coe_lt_coe_iff.mp (this.2.2 j hj hl)⟩

include hg
theorem gwR_val : gwR G (ix2 n 0) = ((gwOf gl (ord G n 0) : ℝ) : EReal) := by
  have h1 := first_real n G gl hg
  have hm : ∀ j, (G (ix2 n j) : EReal) ≤ G (ix2 n (ord G n 0)) := fun j => by rw [hg, hg]; exact EReal.coe_le_coe_iff.mpr (h1.1 j)
  have hx : ∀ j, exp4R G (ix2 n j) = ((Real.exp (gl j - gl (ord G n 0)) : ℝ) : EReal) := fun j => by
    rw [exp4R_val G n _ j hm, hg, hg, ← EReal.coe_sub, exp_real]
  have hpos : (∑ j, Real.exp (gl j - gl (ord G n 0)) : ℝ) ≠ 0 := (Finset.sum_pos (fun j _ => Real.exp_pos _) ⟨0, Finset.mem_univ _⟩).ne'
  rw [gwR, pickR_val n (ord G n 0) _ _ (wrapR_val n _ _ (by pointwise; exact ixR_apply G n))]
  pointwise [soft4R]
  simp only [hx]
  rw [show (∑ j, ((Real.exp (gl j - gl (ord G n 0)) : ℝ) : EReal)) = ((∑ j, Real.exp (gl j - gl (ord G n 0)) : ℝ) : EReal) by
      simp only [Fin.sum_univ_four, EReal.coe_add],
    div_real _ _ hpos, sub_self, Real.exp_zero, gwOf]
include he
theorem el4R_val (j : Fin 4) : el4R G E (ix2 n j) = (el (eix (ord G n 0) j) : EReal) := by
  pointwise [el4R]
  rw [pick4R_val n (ord G n 0) _ _ j (wrap3R_val n _ _ (by pointwise; exact ixR_apply G n))]
  pointwise
  rw [he]
  congr 2
  ext
  simp [eix, mul_comm]
/-- The reference's gates. -/
theorem gatesR_val (e : Fin 16) :
    gatesR G E (ix2 n e) = ((gateOf gl el (ord G n 0) (ord (el4R G E) n 0) (ord (el4R G E) n 1) e : ℝ) : EReal) := by
  have hv := el4R_val G E n gl el hg he
  have h2 := first_real n (el4R G E) _ hv
  have h3 := second_real n (el4R G E) _ hv
  have hw := gwR_val G n gl hg
  generalize hk : ord G n 0 = k at *
  generalize hi1 : ord (el4R G E) n 0 = i1 at *
  generalize hi2 : ord (el4R G E) n 1 = i2 at *
  have t0 : topV (el4R G E) (ix2 n 0) = (el (eix k i1) : EReal) := by
    rw [topV_apply, ← hi1, ← hv]; rfl
  have t1 : topV (el4R G E) (ix2 n 1) = (el (eix k i2) : EReal) := by
    rw [topV_apply, ← hi2, ← hv]; rfl
  have hm : ∀ j : Fin 2, (topV (el4R G E) (ix2 n j) : EReal) ≤ topV (el4R G E) (ix2 n 0) := fun j => by
    match j with
    | ⟨0, _⟩ => exact le_rfl
    | ⟨1, _⟩ => rw [t0]; refine le_of_eq_of_le t1 (EReal.coe_le_coe_iff.mpr (h2.1 i2))
  have x0 : exp2R (topV (el4R G E)) (ix2 n 0) = ((1 : ℝ) : EReal) := by
    rw [exp2R_val _ n 0 0 hm, t0, ← EReal.coe_sub, exp_real, sub_self, Real.exp_zero]
  have x1 : exp2R (topV (el4R G E)) (ix2 n 1) = ((Real.exp (el (eix k i2) - el (eix k i1)) : ℝ) : EReal) := by
    rw [exp2R_val _ n 0 1 hm, t0, t1, ← EReal.coe_sub, exp_real]
  have n0 : numR (ixR G) (topI (el4R G E)) (ix2 n 0) = BitVec.ofNat 32 (eix k i1).val := by
    pointwise [numR]
    rw [ixR_apply, topI_apply, hk, show ord (el4R G E) n ((0 : Fin 2).castLE (by decide)) = i1 from hi1]
    clear * -
    revert k i1; decide
  have n1 : numR (ixR G) (topI (el4R G E)) (ix2 n 1) = BitVec.ofNat 32 (eix k i2).val := by
    pointwise [numR]
    rw [ixR_apply, topI_apply, hk, show ord (el4R G E) n ((1 : Fin 2).castLE (by decide)) = i2 from hi2]
    clear * -
    revert k i2; decide
  have hit : ∀ a b : Fin 16, (FloatOps.uitofp (F := Ideal) FTy.f32 (IntOp.cmpi CmpIPredicate.eq (BitVec.ofNat 32 a.val) (BitVec.ofNat 32 b.val)) : EReal)
      = if b = a then 1 else 0 := fun a b => by
    have : IntOp.cmpi CmpIPredicate.eq (BitVec.ofNat 32 a.val) (BitVec.ofNat 32 b.val) = BitVec.ofBool (decide (b = a)) := by revert a b; decide
    rw [this]
    by_cases h : b = a
    · rw [if_pos h, decide_eq_true h]; show (((BitVec.ofBool true).toNat : ℝ) : EReal) = 1; simp
    · rw [if_neg h, decide_eq_false h]; show (((BitVec.ofBool false).toNat : ℝ) : EReal) = 0; simp
  have hne : eix k i1 ≠ eix k i2 := fun h => h3.1 (by
    have := congrArg Fin.val h
    simp only [eix] at this
    exact Fin.ext (by omega))
  rw [gatesR]
  pointwise [spreadR, soft2R]
  simp only [Fin.sum_univ_two, n0, n1, x0, x1, hw, hit]
  rw [← EReal.coe_add, div_real _ _ (by positivity), div_real _ _ (by positivity), gateOf, w1Of]
  split_ifs with ha hb hb
  · exact absurd (ha.symm.trans hb) hne
  · simp [← EReal.coe_mul]
  · simp [← EReal.coe_mul, div_eq_mul_inv]
  · simp
end
end Cert.Moe.Ref
-- ==== Proof.Moe.Finite.lean ====
module
/- The norm of a row is real when its gain is, whatever the row. -/
public import proofs.«01_k».proof.Proof.Moe.Read
@[expose] public section
noncomputable section
namespace Cert.Moe
open Idealize.ShloMosaic

/-- A value that is a real number. -/
def Real' (x : EReal) : Prop := ∃ r : ℝ, x = (r : EReal)
theorem Real'.mul {a b : EReal} (ha : Real' a) (hb : Real' b) : Real' (a * b) := by
  obtain ⟨r, rfl⟩ := ha; obtain ⟨s, rfl⟩ := hb; exact ⟨r * s, (EReal.coe_mul _ _).symm⟩
theorem Real'.add {a b : EReal} (ha : Real' a) (hb : Real' b) : Real' (a + b) := by
  obtain ⟨r, rfl⟩ := ha; obtain ⟨s, rfl⟩ := hb; exact ⟨r + s, (EReal.coe_add _ _).symm⟩
theorem Real'.sum {α : Type} (s : Finset α) (f : α → EReal) (h : ∀ a, Real' (f a)) : Real' (∑ a ∈ s, f a) :=
  Finset.sum_induction f Real' (fun _ _ ha hb => ha.add hb) ⟨0, rfl⟩ fun a _ => h a
theorem Real'.sub_self {a : EReal} (ha : Real' a) : a - a = 0 := by
  obtain ⟨r, rfl⟩ := ha; rw [← EReal.coe_sub, _root_.sub_self]; rfl

theorem sq_nonneg' (a : EReal) : 0 ≤ a * a := by
  rcases le_total 0 a with h | h
  · exact mul_nonneg h h
  · exact EReal.mul_nonneg_iff.mpr (Or.inr ⟨h, h⟩)

theorem nrm_real (x : Fin 1024 → EReal) (g : EReal) (hg : Real' g) (d : Fin 1024) : Real' (nrm x g d) := by
  unfold nrm
  obtain ⟨e, he, hE⟩ := ceps
  rw [c1024, hE]
  have hS : 0 ≤ ∑ a, x a * x a := Finset.sum_nonneg fun a _ => sq_nonneg' _
  have hdiv : Ideal.div (∑ a, x a * x a) ((1024 : ℝ) : EReal) = (∑ a, x a * x a) * (((1024 : ℝ)⁻¹ : ℝ) : EReal) := by
    unfold Ideal.div
    rw [if_neg (by exact_mod_cast (by norm_num : (1024 : ℝ) ≠ 0)), EReal.coe_inv]
  rw [hdiv]
  by_cases ht : ∑ a, x a * x a = ⊤
  · rw [ht, EReal.top_mul_coe_of_pos (by norm_num), EReal.top_add_coe]
    have : Ideal.rsqrt (⊤ : EReal) = 0 := rfl
    rw [this, mul_zero, zero_mul]
    exact ⟨0, rfl⟩
  · have hx : Real' (x d) := by
      have hle : x d * x d ≤ ∑ a, x a * x a := Finset.single_le_sum (f := fun a => x a * x a) (fun a _ => sq_nonneg' _) (Finset.mem_univ d)
      induction hh : x d with
      | bot => rw [hh, EReal.bot_mul_bot] at hle; exact absurd (top_le_iff.mp hle) ht
      | top => rw [hh, EReal.top_mul_top] at hle; exact absurd (top_le_iff.mp hle) ht
      | coe r => exact ⟨r, rfl⟩
    have hs : Real' (∑ a, x a * x a) := by
      induction hh : ∑ a, x a * x a with
      | bot => rw [hh] at hS; simp at hS
      | top => exact absurd hh ht
      | coe r => exact ⟨r, rfl⟩
    obtain ⟨s, hs⟩ := hs
    have hs0 : 0 ≤ s := by rw [hs] at hS; exact_mod_cast hS
    rw [hs, ← EReal.coe_mul, ← EReal.coe_add]
    have hpos : 0 < s * (1024 : ℝ)⁻¹ + e := by positivity
    have hr : Real' (Ideal.rsqrt ((s * (1024 : ℝ)⁻¹ + e : ℝ) : EReal)) := by
      refine ⟨(Real.sqrt (s * (1024 : ℝ)⁻¹ + e))⁻¹, ?_⟩
      show (if _ then _ else _) = _
      rw [if_neg (not_lt.mpr hpos.le), if_neg hpos.ne']
    exact (hx.mul hr).mul hg

/-- A value whose size is below infinity is real. -/
theorem real_of_abs (x : EReal) (h : FloatOps.cmpf (F := Ideal) (φ := .f32) .olt (FloatOps.absf x) (FloatOps.ofBits .f32 0x7F800000#32) = 1#1) : Real' x := by
  have h' : max x (-x) < ⊤ := by
    have h1 : Ideal.cmp .olt (max x (-x)) (Ideal.ofBits .f32 0x7F800000#32) = 1#1 := h
    rw [ctop] at h1
    by_contra hn
    have : Ideal.cmp .olt (max x (-x)) (⊤ : EReal) = BitVec.ofBool (decide (max x (-x) < ⊤)) := rfl
    rw [this, decide_eq_false hn] at h1
    exact absurd h1 (by decide)
  induction x with
  | bot => exact absurd h' (by simp)
  | top => exact absurd h' (by simp)
  | coe r => exact ⟨r, rfl⟩

end Cert.Moe
-- ==== Proof.Moe.RefLayer.lean ====
module
/- The reference's layer read token by token. -/
public import proofs.«01_k».proof.Proof.Moe.RefVec
public import proofs.«01_k».proof.Proof.Moe.Spec
public import proofs.«01_k».proof.Proof.Moe.Finite
@[expose] public section
noncomputable section
namespace Cert.Moe.Ref
open Idealize.ShloMosaic
open Cert.ReferenceIdeal Cert.ReferenceIdeal.Gen

theorem normR_apply (x : FVec Ideal S32768x1024 .f32) (g : FVec Ideal S1024 .f32) (n : Fin 32768) (d : Fin 1024) :
    normR x g (ix2 n d) = nrm (fun a => x (ix2 n a)) (g (ix1 d)) d := by
  pointwise [normR]
  rfl
theorem glR_apply (hn : FVec Ideal S32768x1024 .f32) (w : FVec Ideal S1024x4 .f32) (b : FVec Ideal S4 .f32) (n : Fin 32768) (j : Fin 4) :
    glR hn w b (ix2 n j) = ∑ a, hn (ix2 n a) * w (ix2 a j) + b (ix1 j) := by
  pointwise [glR]
theorem elR_apply (hn : FVec Ideal S32768x1024 .f32) (w : FVec Ideal S1024x16 .f32) (b : FVec Ideal S16 .f32) (n : Fin 32768) (j : Fin 16) :
    elR hn w b (ix2 n j) = ∑ a, hn (ix2 n a) * w (ix2 a j) + b (ix1 j) := by
  pointwise [elR]
/-- A sum over 4096 places, expert by expert. -/
theorem sum_4096 (F : Fin 16 → Fin 256 → EReal) :
    ∑ x : Fin 4096, F ⟨x.val / 256, by omega⟩ ⟨x.val % 256, by omega⟩ = ∑ e, ∑ f, F e f := by
  rw [← Fintype.sum_prod_type' (f := F)]
  refine Fintype.sum_equiv (finProdFinEquiv (m := 16) (n := 256)).symm _ _ fun p => ?_
  rfl
theorem outR_apply (a : FVec Ideal S32768x16x256 .f32) (w : FVec Ideal S16x256x1024 .f32) (n : Fin 32768) (d : Fin 1024) :
    outR a w (ix2 n d) = ∑ e, ∑ f, a (ix3 n e f) * w (ix3 e f d) := by
  rw [← sum_4096 fun e f => a (ix3 n e f) * w (ix3 e f d)]
  pointwise [outR]
theorem layerR_apply (x : FVec Ideal S32768x1024 .f32) (g : FVec Ideal S1024 .f32) (wg : FVec Ideal S1024x4 .f32) (bg : FVec Ideal S4 .f32)
    (we : FVec Ideal S1024x16 .f32) (be : FVec Ideal S16 .f32) (w1 w3 : FVec Ideal S16x1024x256 .f32) (w2 : FVec Ideal S16x256x1024 .f32)
    (n : Fin 32768) (d : Fin 1024) :
    layerR x g wg bg we be w1 w3 w2 (ix2 n d) = x (ix2 n d) + ∑ e, ex (fun a => normR x g (ix2 n a))
      (gatesR (glR (normR x g) wg bg) (elR (normR x g) we be) (ix2 n e))
      (fun a f => w1 (ix3 e a f)) (fun a f => w3 (ix3 e a f)) (fun f d => w2 (ix3 e f d)) d := by
  show x (ix2 n d) + outR _ _ (ix2 n d) = _
  rw [outR_apply]
  refine congrArg (x (ix2 n d) + ·) (Finset.sum_congr rfl fun e _ => ?_)
  unfold ex
  refine Finset.sum_congr rfl fun f _ => congrArg (· * w2 (ix3 e f d)) ?_
  simp only [zero_sub]
  pointwise [actR, siluR, projR]
theorem inR_apply (a : FVec Ideal S32768x1024 .f32) (b : FVec Ideal S32768x1024 .bf16) (w : FVec Ideal S1024x1024 .f32) (n : Fin 32768) (j : Fin 1024) :
    inR a b w (ix2 n j) = a (ix2 n j) + ∑ x, b (ix2 n x) * w (ix2 x j) := by
  pointwise [inR]
end Cert.Moe.Ref
-- ==== Proof.Moe.Read2.lean ====
module
/- The places of tokens, the slots and the experts on them read at an index. -/
public import proofs.«01_k».proof.Proof.Moe.Vec
public import proofs.«01_k».proof.Proof.Moe.Const
public import proofs.«01_k».proof.Proof.Moe.Spec
@[expose] public section
noncomputable section
namespace Cert.Moe
open Idealize.ShloMosaic
open Cert.KernelIdeal Cert.KernelIdeal.Facts Cert.KernelIdeal.Gen

theorem onehotV_apply (gi : FVec Ideal S1x512 .f32) (r : Fin 16) (t : Fin 512) (k : ℕ) (hk : gi (ix2 0 t) = ((k : ℝ) : EReal)) :
    onehotV gi (ix2 r t) = if r.val = k then 1 else 0 := by
  pointwise [onehotV]
  rw [row_num (by omega), hk]
  refine if_congr ?_ rfl rfl
  exact_mod_cast Iff.rfl
theorem rankV_apply (gi : FVec Ideal S1x512 .f32) (u : FVec Ideal S512x512 .bf16) (t : Fin 512) :
    rankV gi u (ix2 0 t) = ∑ r, (∑ s, onehotV gi (ix2 r s) * u (ix2 s t)) * onehotV gi (ix2 r t) := by
  pointwise [rankV]
theorem placedV_apply (gi : FVec Ideal S1x512 .f32) (u : FVec Ideal S512x512 .bf16) (t : Fin 512) (n : ℕ) (hn : rankV gi u (ix2 0 t) = ((n : ℝ) : EReal)) :
    placedV gi u (ix2 0 t) = BitVec.ofBool (decide (n < 160)) := by
  pointwise [placedV]
  rw [c160, hn]
  congr 1
  exact decide_eq_decide.mpr (by exact_mod_cast Iff.rfl)
theorem slotV_apply (gi : FVec Ideal S1x512 .f32) (u : FVec Ideal S512x512 .bf16) (t : Fin 512) (k n : ℕ) (hk : gi (ix2 0 t) = ((k : ℝ) : EReal))
    (hn : rankV gi u (ix2 0 t) = ((n : ℝ) : EReal)) :
    slotV gi u (ix2 0 t) = if n < 160 then (((160 * k + n : ℕ) : ℝ) : EReal) else ((-1 : ℝ) : EReal) := by
  pointwise [slotV, placedV]
  rw [c160, cm1, hn, hk]
  refine if_congr ?_ ?_ rfl
  · exact_mod_cast Iff.rfl
  · push_cast; rw [mul_comm]
theorem selV_apply (sl : FVec Ideal S1x512 .f32) (r : Fin 640) (t : Fin 512) :
    selV sl (ix2 r t) = if sl (ix2 0 t) = ((r.val : ℝ) : EReal) then 1 else 0 := by
  pointwise [selV]
  rw [row_num (by omega)]
theorem xsV_apply (hn : FVec Ideal S512x1024 .bf16) (sl : FVec Ideal S1x512 .f32) (r : Fin 640) (d : Fin 1024) :
    xsV hn sl (ix2 r d) = ∑ t, selV sl (ix2 r t) * hn (ix2 t d) := by
  pointwise [xsV]
theorem tokenMajor_apply (g : FVec Ideal S32x512 .f32) (t : Fin 512) (c : Fin 128) (h : c.val < 32) :
    tokenMajor g (ix2 t c) = g (ix2 ⟨c.val, h⟩ t) := by
  pointwise [tokenMajor]
  rw [dif_pos h]
theorem gsV_apply (g : FVec Ideal S32x512 .f32) (sl : FVec Ideal S1x512 .f32) (r : Fin 640) (c : Fin 128) :
    gsV g sl (ix2 r c) = ∑ t, selV sl (ix2 r t) * tokenMajor g (ix2 t c) + ∑ t, selV sl (ix2 r t) * (tokenMajor g (ix2 t c) - tokenMajor g (ix2 t c)) := by
  pointwise [gsV]
theorem exp160_apply (xg : FVec Ideal S160x1024 .bf16) (gate : FVec Ideal S160x1 .f32) (wg wu : FVec Ideal S1x1024x256 .bf16) (wd : FVec Ideal S1x256x1024 .bf16)
    (r : Fin 160) (d : Fin 1024) :
    exp160 xg gate wg wu wd (ix2 r d) = ex (fun a => xg (ix2 r a)) (gate (ix2 r 0)) (fun a f => wg (ix3 0 a f)) (fun a f => wu (ix3 0 a f)) (fun f d => wd (ix3 0 f d)) d := by
  pointwise [exp160, ex]
theorem exp512_apply (xg : FVec Ideal S512x1024 .bf16) (gate : FVec Ideal S512x1 .f32) (wg wu : FVec Ideal S1x1024x256 .bf16) (wd : FVec Ideal S1x256x1024 .bf16)
    (r : Fin 512) (d : Fin 1024) :
    exp512 xg gate wg wu wd (ix2 r d) = ex (fun a => xg (ix2 r a)) (gate (ix2 r 0)) (fun a f => wg (ix3 0 a f)) (fun a f => wu (ix3 0 a f)) (fun f d => wd (ix3 0 f d)) d := by
  pointwise [exp512, ex]
theorem xgV_apply (xs : FVec Ideal S640x1024 .bf16) (g : Fin 4) (r : Fin 160) (d : Fin 1024) : xgV xs g (ix2 r d) = xs (ix2 ⟨160 * g.val + r.val, by omega⟩ d) := by
  pointwise [xgV]
theorem gcV_apply (gs : FVec Ideal S640x128 .f32) (g j : Fin 4) (r : Fin 160) :
    gcV gs g j (ix2 r 0) = gs (ix2 ⟨160 * g.val + r.val, by omega⟩ ⟨4 + (4 * g.val + j.val), by omega⟩) := by
  pointwise [gcV]
theorem lcV_apply (gs : FVec Ideal S512x128 .f32) (g j : Fin 4) (r : Fin 512) :
    lcV gs g j (ix2 r 0) = gs (ix2 r ⟨4 + (4 * g.val + j.val), by omega⟩) := by
  pointwise [lcV]
theorem ldIn_apply (w : FVec Ideal S16x1024x256 .bf16) (e : Fin 16) (a : Fin 1024) (f : Fin 256) : ldIn w e (ix3 0 a f) = w (ix3 e a f) := by
  pointwise [ldIn]
theorem ldOut_apply (w : FVec Ideal S16x256x1024 .bf16) (e : Fin 16) (a : Fin 256) (f : Fin 1024) : ldOut w e (ix3 0 a f) = w (ix3 e a f) := by
  pointwise [ldOut]
theorem countV_apply (oh : FVec Ideal S16x512 .f32) (g : Fin 4) : countV oh g = ∑ t, oh (ix2 ⟨g.val, by omega⟩ t) := by
  pointwise [countV]
  simp
theorem leftV_apply (p : IVec S1x512 1) (g : FVec Ideal S32x512 .f32) (t : Fin 512) (c : Fin 128) (h : c.val < 32) :
    leftV p g (ix2 t c) = Scalar.select (p (ix2 0 t)) 0 (g (ix2 ⟨c.val, h⟩ t)) := by
  pointwise [leftV, tokenMajor]
  rw [dif_pos h]
theorem backV_apply (x : FVec Ideal S512x1024 .f32) (sl : FVec Ideal S1x512 .f32) (y : Fin 4 → FVec Ideal S160x1024 .f32) (t : Fin 512) (d : Fin 1024) :
    backV x sl y (ix2 t d) = x (ix2 t d) + ∑ s : Fin 640, selV sl (ix2 s t) * y ⟨s.val / 160, by omega⟩ (ix2 ⟨s.val % 160, by omega⟩ d) := by
  pointwise [backV]
  refine congrArg (x (ix2 t d) + ·) (Finset.sum_congr rfl fun s _ => congrArg (selV sl (ix2 s t) * ·) ?_)
  have hs := s.isLt
  have key : ∀ (g : Fin 4) (r r' : Fin 160) (g' : Fin 4), g = g' → r = r' → y g (ix2 r d) = y g' (ix2 r' d) := by rintro _ _ _ _ rfl rfl; rfl
  split_ifs with h1 h2 h3 <;> refine key _ _ _ _ (Fin.ext ?_) (Fin.ext ?_) <;> simp <;> omega
end Cert.Moe
-- ==== Proof.Moe.Route.lean ====
module
/- The places of tokens: how many earlier tokens have the same group, and that slots are not shared. -/
public import Idealize.ShloMosaic.Lib.Pointwise
@[expose] public section
noncomputable section
namespace Cert.Moe
open Idealize.ShloMosaic

variable (k : Fin 512 → Fin 4)
/-- How many earlier tokens have the token's group. -/
def rk (t : Fin 512) : ℕ := (Finset.univ.filter fun s => k s = k t ∧ s < t).card
/-- How many tokens have a group. -/
def cnt (g : Fin 4) : ℕ := (Finset.univ.filter fun s => k s = g).card

theorem rk_lt {s t : Fin 512} (h : k s = k t) (hst : s < t) : rk k s < rk k t := by
  refine Finset.card_lt_card ⟨fun x hx => ?_, fun hsub => ?_⟩
  · simp only [Finset.mem_filter, Finset.mem_univ, true_and] at hx ⊢
    exact ⟨hx.1.trans h, hx.2.trans hst⟩
  · have := hsub (show s ∈ _ by simpa using ⟨h, hst⟩)
    simp at this

theorem rk_lt_cnt (t : Fin 512) : rk k t < cnt k (k t) := by
  refine Finset.card_lt_card ⟨fun x hx => ?_, fun hsub => ?_⟩
  · simp only [Finset.mem_filter, Finset.mem_univ, true_and] at hx ⊢
    exact hx.1
  · have := hsub (show t ∈ _ by simp)
    simp at this

/-- Two tokens with a slot do not share it. -/
theorem slot_inj {s t : Fin 512} (hs : rk k s < 160) (ht : rk k t < 160) (h : 160 * (k s).val + rk k s = 160 * (k t).val + rk k t) : s = t := by
  have hk : k s = k t := Fin.ext (by omega)
  have hr : rk k s = rk k t := by omega
  rcases lt_trichotomy s t with hlt | he | hgt
  · exact absurd hr (rk_lt k hk hlt).ne
  · exact he
  · exact absurd hr (rk_lt k hk.symm hgt).ne'

theorem card_real {α : Type} [Fintype α] (p : α → Prop) [DecidablePred p] :
    (∑ s : α, if p s then (1 : EReal) else 0) = (((Finset.univ.filter p).card : ℝ) : EReal) := by
  rw [← Finset.natCast_card_filter]; simp

end Cert.Moe
-- ==== Proof.Moe.Block.lean ====
module
/- The block through the mixture of experts is, token by token, the token and its gated experts. -/
public import proofs.«01_k».proof.Proof.Moe.Read2
public import proofs.«01_k».proof.Proof.Moe.Route
@[expose] public section
noncomputable section
namespace Cert.Moe
open Idealize.ShloMosaic
open Cert.KernelIdeal Cert.KernelIdeal.Facts Cert.KernelIdeal.Gen

/-- A sum over sixteen experts, group by group. -/
theorem sum_groups (f : Fin 16 → EReal) : ∑ e, f e = ∑ g : Fin 4, ∑ j : Fin 4, f (eix g j) := by
  rw [← Fintype.sum_prod_type' (f := fun g j => f (eix g j))]
  refine (Fintype.sum_equiv (finProdFinEquiv (m := 4) (n := 4)) _ _ fun p => ?_).symm
  congr 1; ext; simp [eix, finProdFinEquiv]; omega

variable (hn : FVec Ideal S512x1024 .bf16) (gi : FVec Ideal S1x512 .f32) (gt : FVec Ideal S32x512 .f32) (u : FVec Ideal S512x512 .bf16)
  (wg wu : FVec Ideal S16x1024x256 .bf16) (wd : FVec Ideal S16x256x1024 .bf16) (k : Fin 512 → Fin 4) (G : Fin 512 → Fin 16 → ℝ)
  (hk : ∀ t, gi (ix2 0 t) = (((k t).val : ℝ) : EReal)) (hu : ∀ s t : Fin 512, u (ix2 s t) = if s < t then 1 else 0)
  (hG : ∀ t (e : Fin 16), gt (ix2 ⟨4 + e.val, row16 e⟩ t) = (G t e : EReal)) (hz : ∀ t g j, g ≠ k t → G t (eix g j) = 0)

/-- A token's experts of one group, weighted by some gates. -/
def exAt (w : EReal) (t : Fin 512) (e : Fin 16) (d : Fin 1024) : EReal :=
  ex (fun a => hn (ix2 t a)) w (fun a f => wg (ix3 e a f)) (fun a f => wu (ix3 e a f)) (fun f d => wd (ix3 e f d)) d

include hk in
theorem onehot_val (r : Fin 16) (t : Fin 512) : onehotV gi (ix2 r t) = if r.val = (k t).val then 1 else 0 := onehotV_apply gi r t _ (hk t)

include hk hu in
theorem rank_val (t : Fin 512) : rankV gi u (ix2 0 t) = ((rk k t : ℝ) : EReal) := by
  rw [rankV_apply]
  rw [Finset.sum_eq_single (⟨(k t).val, by omega⟩ : Fin 16)]
  · rw [onehot_val gi k hk _ t, if_pos rfl, mul_one, rk, ← card_real]
    refine Finset.sum_congr rfl fun s _ => ?_
    rw [onehot_val gi k hk _ s, hu]
    by_cases h1 : k s = k t <;> by_cases h2 : s < t <;> simp [h1, h2, Fin.ext_iff, eq_comm] <;> simp_all [Fin.ext_iff, eq_comm]
  · intro r _ hr
    rw [onehot_val gi k hk _ t, if_neg (fun h => hr (Fin.ext h)), mul_zero]
  · intro h; exact absurd (Finset.mem_univ _) h

include hk hu in
theorem sel_val (s : Fin 640) (t : Fin 512) :
    selV (slotV gi u) (ix2 s t) = if rk k t < 160 ∧ 160 * (k t).val + rk k t = s.val then 1 else 0 := by
  rw [selV_apply, slotV_apply gi u t _ _ (hk t) (rank_val gi u k hk hu t)]
  by_cases h : rk k t < 160
  · rw [if_pos h]
    refine if_congr ?_ rfl rfl
    simp only [h, true_and, EReal.coe_eq_coe_iff, Nat.cast_inj]
  · rw [if_neg h, if_neg, if_neg]
    · exact fun hh => h hh.1
    · intro he
      have he' := EReal.coe_eq_coe_iff.mp he
      have : (0 : ℝ) ≤ (s.val : ℝ) := Nat.cast_nonneg _
      linarith

include hk hu in
/-- The slot of a token holds what the token has. -/
theorem sum_sel (f : Fin 512 → EReal) (s : Fin 640) (t : Fin 512) (ht : rk k t < 160) (hs : 160 * (k t).val + rk k t = s.val) :
    ∑ t', selV (slotV gi u) (ix2 s t') * f t' = f t := by
  rw [Finset.sum_eq_single t]
  · rw [sel_val gi u k hk hu, if_pos ⟨ht, hs⟩, one_mul]
  · intro t' _ hne
    rw [sel_val gi u k hk hu, if_neg, zero_mul]
    exact fun h => hne (slot_inj k h.1 ht (h.2.trans hs.symm))
  · intro h; exact absurd (Finset.mem_univ _) h

include hk hu in
theorem xs_val (s : Fin 640) (t : Fin 512) (ht : rk k t < 160) (hs : 160 * (k t).val + rk k t = s.val) (d : Fin 1024) :
    xsV hn (slotV gi u) (ix2 s d) = hn (ix2 t d) := by
  rw [xsV_apply, sum_sel gi u k hk hu (fun t => hn (ix2 t d)) s t ht hs]

include hk hu hG in
theorem gs_val (s : Fin 640) (t : Fin 512) (ht : rk k t < 160) (hs : 160 * (k t).val + rk k t = s.val) (e : Fin 16) :
    gsV gt (slotV gi u) (ix2 s ⟨4 + e.val, by omega⟩) = (G t e : EReal) := by
  have hm : tokenMajor gt (ix2 t ⟨4 + e.val, by omega⟩) = (G t e : EReal) := by
    rw [tokenMajor_apply gt t _ (by show 4 + e.val < 32; omega)]; exact hG t e
  rw [gsV_apply, sum_sel gi u k hk hu (fun t => tokenMajor gt (ix2 t ⟨4 + e.val, by omega⟩)) s t ht hs,
    sum_sel gi u k hk hu (fun t => tokenMajor gt (ix2 t ⟨4 + e.val, by omega⟩) - tokenMajor gt (ix2 t ⟨4 + e.val, by omega⟩)) s t ht hs, hm,
    ← EReal.coe_sub, sub_self, EReal.coe_zero, add_zero]

include hk hu hG in
/-- A group's experts, on the slot of a token. -/
theorem grp_val (t : Fin 512) (ht : rk k t < 160) (d : Fin 1024) :
    grpV (xsV hn (slotV gi u)) (gsV gt (slotV gi u)) wg wu wd (k t) (ix2 ⟨rk k t, ht⟩ d) = ∑ j, exAt hn wg wu wd (G t (eix (k t) j)) t (eix (k t) j) d := by
  have he : ∀ j : Fin 4, exp160 (xgV (xsV hn (slotV gi u)) (k t)) (gcV (gsV gt (slotV gi u)) (k t) j) (ldIn wg (eix (k t) j)) (ldIn wu (eix (k t) j))
      (ldOut wd (eix (k t) j)) (ix2 ⟨rk k t, ht⟩ d) = exAt hn wg wu wd (G t (eix (k t) j)) t (eix (k t) j) d := by
    intro j
    rw [exp160_apply, gcV_apply]
    simp only [xgV_apply, ldIn_apply, ldOut_apply]
    rw [show (gsV gt (slotV gi u)) (ix2 ⟨160 * (k t).val + rk k t, by omega⟩ ⟨4 + (4 * (k t).val + j.val), by omega⟩) = (G t (eix (k t) j) : EReal) from
      gs_val gi gt u k G hk hu hG _ t ht rfl (eix (k t) j)]
    rw [show (fun a => xsV hn (slotV gi u) (ix2 ⟨160 * (k t).val + rk k t, by omega⟩ a)) = fun a => hn (ix2 t a) from
      funext fun a => xs_val hn gi u k hk hu _ t ht rfl a]
    rfl
  rw [Fin.sum_univ_four, ← he, ← he, ← he, ← he]
  rfl

include hk hu hG in
/-- What comes back from the slots. -/
theorem back_val (x : FVec Ideal S512x1024 .f32) (t : Fin 512) (d : Fin 1024) :
    backV x (slotV gi u) (grpV (xsV hn (slotV gi u)) (gsV gt (slotV gi u)) wg wu wd) (ix2 t d) =
      x (ix2 t d) + if rk k t < 160 then ∑ j, exAt hn wg wu wd (G t (eix (k t) j)) t (eix (k t) j) d else 0 := by
  rw [backV_apply]
  congr 1
  by_cases ht : rk k t < 160
  · rw [if_pos ht, ← grp_val hn gi gt u wg wu wd k G hk hu hG t ht d]
    rw [Finset.sum_eq_single (⟨160 * (k t).val + rk k t, by omega⟩ : Fin 640)]
    · rw [sel_val gi u k hk hu, if_pos ⟨ht, rfl⟩, one_mul]
      have key : ∀ (y : Fin 4 → FVec Ideal S160x1024 .f32) (g : Fin 4) (r r' : Fin 160) (g' : Fin 4), g = g' → r = r' → y g (ix2 r d) = y g' (ix2 r' d) := by
        rintro _ _ _ _ _ rfl rfl; rfl
      refine key _ _ _ _ _ (Fin.ext ?_) (Fin.ext ?_)
      · show (160 * (k t).val + rk k t) / 160 = (k t).val; omega
      · show (160 * (k t).val + rk k t) % 160 = rk k t; omega
    · intro s _ hs
      rw [sel_val gi u k hk hu, if_neg, zero_mul]
      exact fun h => hs (Fin.ext h.2.symm)
    · intro h; exact absurd (Finset.mem_univ _) h
  · rw [if_neg ht]
    refine Finset.sum_eq_zero fun s _ => ?_
    rw [sel_val gi u k hk hu, if_neg (fun h => ht h.1), zero_mul]

include hk in
theorem count_val (g : Fin 4) : countV (onehotV gi) g = ((cnt k g : ℝ) : EReal) := by
  rw [countV_apply, cnt, ← card_real]
  refine Finset.sum_congr rfl fun t _ => ?_
  rw [onehot_val gi k hk]
  refine if_congr ?_ rfl rfl
  rw [Fin.ext_iff]; exact eq_comm
include hk in
theorem more_iff (g : Fin 4) : moreV (onehotV gi) g ↔ 160 < cnt k g := by
  unfold moreV
  rw [count_val gi k hk]
  show Scalar.cmpi .ne (Scalar.extui (BitVec.ofBool (decide (_ < _))) : BitVec 32) 0#32 = 1#1 ↔ _
  rw [show (Scalar.ofBits FTy.f32 0x43200000#32 : Ideal .f32) = ((160 : ℝ) : EReal) from c160]
  have : (((160 : ℝ) : EReal) < ((cnt k g : ℝ) : EReal)) ↔ 160 < cnt k g := by exact_mod_cast Iff.rfl
  by_cases h : 160 < cnt k g
  · simp only [this, h, decide_true]; decide
  · simp only [this, h, decide_false]; decide

include hk hu hG in
theorem left_val (t : Fin 512) (e : Fin 16) :
    leftV (placedV gi u) gt (ix2 t ⟨4 + e.val, by omega⟩) = if rk k t < 160 then 0 else (G t e : EReal) := by
  rw [leftV_apply _ _ t _ (by show 4 + e.val < 32; omega), placedV_apply gi u t _ (rank_val gi u k hk hu t), hG]
  by_cases h : rk k t < 160 <;> simp [h, Scalar.select]

include hk hu hG hz in
/-- One step of the overflow adds a token's experts when the token has no slot and the group is its own. -/
theorem step_val (b : FVec Ideal S512x1024 .f32) (g : Fin 4) (t : Fin 512) (d : Fin 1024) :
    stepV b hn (onehotV gi) (leftV (placedV gi u) gt) wg wu wd g (ix2 t d) =
      b (ix2 t d) + if rk k t < 160 then 0 else ∑ j, exAt hn wg wu wd (G t (eix g j)) t (eix g j) d := by
  have hov : overV b hn (leftV (placedV gi u) gt) wg wu wd g (ix2 t d) = b (ix2 t d) + ∑ j, exAt hn wg wu wd (if rk k t < 160 then 0 else (G t (eix g j) : EReal)) t (eix g j) d := by
    have he : ∀ j : Fin 4, exp512 hn (lcV (leftV (placedV gi u) gt) g j) (ldIn wg (eix g j)) (ldIn wu (eix g j)) (ldOut wd (eix g j)) (ix2 t d)
        = exAt hn wg wu wd (if rk k t < 160 then 0 else (G t (eix g j) : EReal)) t (eix g j) d := by
      intro j
      rw [exp512_apply, lcV_apply]
      simp only [ldIn_apply, ldOut_apply]
      rw [show (leftV (placedV gi u) gt) (ix2 t ⟨4 + (4 * g.val + j.val), by omega⟩) = _ from left_val gi gt u k G hk hu hG t (eix g j)]
      rfl
    rw [Fin.sum_univ_four, ← he, ← he, ← he, ← he, overV, shapeCast_id]
    rfl
  unfold stepV
  by_cases hp : rk k t < 160
  · rw [if_pos hp, add_zero]
    split_ifs
    · rw [hov]
      simp only [if_pos hp, exAt, ex_zero, Finset.sum_const_zero, add_zero]
    · rfl
  · rw [if_neg hp]
    split_ifs with hm
    · rw [hov]; simp only [if_neg hp]
    · have hgk : g ≠ k t := by
        rintro rfl
        exact hm ((more_iff gi k hk _).mpr (by have := rk_lt_cnt k t; omega))
      have : ∑ j, exAt hn wg wu wd (G t (eix g j)) t (eix g j) d = 0 := by
        refine Finset.sum_eq_zero fun j _ => ?_
        rw [hz t g j hgk]; exact ex_zero _ _ _ _ _
      rw [this, add_zero]

include hk hu hG hz in
/-- The block, token by token. -/
theorem steps_val (x : FVec Ideal S512x1024 .f32) (t : Fin 512) (d : Fin 1024) :
    stepV (stepV (stepV (stepV (backV x (slotV gi u) (grpV (xsV hn (slotV gi u)) (gsV gt (slotV gi u)) wg wu wd))
        hn (onehotV gi) (leftV (placedV gi u) gt) wg wu wd 0) hn (onehotV gi) (leftV (placedV gi u) gt) wg wu wd 1)
        hn (onehotV gi) (leftV (placedV gi u) gt) wg wu wd 2) hn (onehotV gi) (leftV (placedV gi u) gt) wg wu wd 3 (ix2 t d)
      = x (ix2 t d) + ∑ e, exAt hn wg wu wd (G t e) t e d := by
  rw [step_val hn gi gt u wg wu wd k G hk hu hG hz, step_val hn gi gt u wg wu wd k G hk hu hG hz, step_val hn gi gt u wg wu wd k G hk hu hG hz,
    step_val hn gi gt u wg wu wd k G hk hu hG hz, back_val hn gi gt u wg wu wd k G hk hu hG, sum_groups]
  have h0 : ∀ g, g ≠ k t → ∑ j, exAt hn wg wu wd (G t (eix g j)) t (eix g j) d = 0 := fun g hg =>
    Finset.sum_eq_zero fun j _ => by rw [hz t g j hg]; exact ex_zero _ _ _ _ _
  by_cases hp : rk k t < 160
  · simp only [if_pos hp, add_zero]
    rw [Finset.sum_eq_single (k t) (fun g _ hg => h0 g hg) (fun h => absurd (Finset.mem_univ _) h)]
  · simp only [if_neg hp, add_zero]
    rw [Fin.sum_univ_four (fun g : Fin 4 => ∑ j, exAt hn wg wu wd (G t (eix g j)) t (eix g j) d)]
    simp only [add_assoc]
end Cert.Moe
-- ==== Proof.Moe.Equal.lean ====
module
/- A block of the vector program is the reference's layer on the block's tokens, when its windows hold the layer's
   arguments and the router's arguments are real numbers. -/
public import proofs.«01_k».proof.Proof.Moe.RefGates
public import proofs.«01_k».proof.Proof.Moe.RefLayer
public import proofs.«01_k».proof.Proof.Moe.Block
@[expose] public section
noncomputable section
namespace Cert.Moe
open Idealize.ShloMosaic
open Cert.ReferenceIdeal (S32768x1024 S1024 S1024x4 S4 S1024x16 S16)
open Cert.KernelIdeal (S512x1024 S1x1024 S64x1024 S32x1 S512x512 S16x1024x256 S16x256x1024)
open Ref

theorem hi4 (j : Fin 4) : j.val < 64 := by omega
theorem hi16 (e : Fin 16) : 4 + e.val < 64 := by omega
theorem lo20 (r : Fin 20) : 32 + r.val < 64 := by omega
/-- What the router's windows hold: the two routers' columns as rows, nothing in the low rows, the biases, the triangle. -/
structure Router (g : FVec Ideal S1x1024 .f32) (wr : FVec Ideal S64x1024 .bf16) (br : FVec Ideal S32x1 .f32) (u : FVec Ideal S512x512 .bf16)
    (gain : FVec Ideal S1024 .f32) (wg : FVec Ideal S1024x4 .f32) (bg : FVec Ideal S4 .f32) (we : FVec Ideal S1024x16 .f32) (be : FVec Ideal S16 .f32) : Prop where
  gain_eq : ∀ a, g (ix2 0 a) = gain (ix1 a)
  wg_eq : ∀ (j : Fin 4) a, wr (ix2 ⟨j.val, hi4 j⟩ a) = wg (ix2 a j)
  we_eq : ∀ (e : Fin 16) a, wr (ix2 ⟨4 + e.val, hi16 e⟩ a) = we (ix2 a e)
  low_eq : ∀ (r : Fin 20) a, wr (ix2 ⟨32 + r.val, lo20 r⟩ a) = (0 : EReal)
  bg_eq : ∀ j : Fin 4, br (ix2 ⟨j.val, row4 j⟩ 0) = bg (ix1 j)
  be_eq : ∀ e : Fin 16, br (ix2 ⟨4 + e.val, row16 e⟩ 0) = be (ix1 e)
  tri : ∀ s t : Fin 512, u (ix2 s t) = if s < t then (1 : EReal) else 0
  gain_real : ∀ a, Real' (gain (ix1 a))
  wg_real : ∀ a j, Real' (wg (ix2 a j))
  bg_real : ∀ j, Real' (bg (ix1 j))
  we_real : ∀ a e, Real' (we (ix2 a e))
  be_real : ∀ e, Real' (be (ix1 e))

variable {g : FVec Ideal S1x1024 .f32} {wr : FVec Ideal S64x1024 .bf16} {br : FVec Ideal S32x1 .f32} {u : FVec Ideal S512x512 .bf16}
    {gain : FVec Ideal S1024 .f32} {wg : FVec Ideal S1024x4 .f32} {bg : FVec Ideal S4 .f32} {we : FVec Ideal S1024x16 .f32} {be : FVec Ideal S16 .f32}
    (R : Router g wr br u gain wg bg we be) (x : FVec Ideal S512x1024 .f32) (X : FVec Ideal S32768x1024 .f32) (n : Fin 512 → Fin 32768)
    (hx : ∀ t d, x (ix2 t d) = X (ix2 (n t) d))
include R hx

theorem norm_same (t : Fin 512) (a : Fin 1024) : normV x g (ix2 t a) = normR X gain (ix2 (n t) a) := by
  rw [normV_apply, normR_apply, R.gain_eq]
  simp only [hx]
theorem gl_same (t : Fin 512) (j : Fin 4) :
    logitV (truncf .bf16 (normV x g) (by decide)) wr br (ix2 ⟨j.val, by omega⟩ t) = glR (normR X gain) wg bg (ix2 (n t) j) := by
  rw [logitV_apply, glR_apply]
  have low : ∀ a, wr (ix2 ⟨32 + j.val, by omega⟩ a) = (0 : EReal) := fun a => R.low_eq ⟨j.val, by omega⟩ a
  have hn : ∀ a, truncf .bf16 (normV x g) (by decide) (ix2 t a) = normR X gain (ix2 (n t) a) := norm_same R x X n hx t
  simp only [low, R.wg_eq, R.bg_eq, zero_mul, Finset.sum_const_zero, add_zero, hn, mul_comm]
theorem el_same (t : Fin 512) (e : Fin 16) :
    logitV (truncf .bf16 (normV x g) (by decide)) wr br (ix2 ⟨4 + e.val, by omega⟩ t) = elR (normR X gain) we be (ix2 (n t) e) := by
  rw [logitV_apply, elR_apply]
  have low : ∀ a, wr (ix2 ⟨32 + (4 + e.val), by omega⟩ a) = (0 : EReal) := fun a => R.low_eq ⟨4 + e.val, by omega⟩ a
  have hn : ∀ a, truncf .bf16 (normV x g) (by decide) (ix2 t a) = normR X gain (ix2 (n t) a) := norm_same R x X n hx t
  simp only [low, R.we_eq, R.be_eq, zero_mul, Finset.sum_const_zero, add_zero, hn, mul_comm]
omit hx in
theorem hn_real (m : Fin 32768) (a : Fin 1024) : Real' (normR X gain (ix2 m a)) := by
  rw [normR_apply]; exact nrm_real _ _ (R.gain_real a) a
omit hx in
theorem gl_real (m : Fin 32768) (j : Fin 4) : Real' (glR (normR X gain) wg bg (ix2 m j)) := by
  rw [glR_apply]
  exact (Real'.sum _ _ fun a => (hn_real R X m a).mul (R.wg_real a j)).add (R.bg_real j)
omit hx in
theorem el_real (m : Fin 32768) (e : Fin 16) : Real' (elR (normR X gain) we be (ix2 m e)) := by
  rw [elR_apply]
  exact (Real'.sum _ _ fun a => (hn_real R X m a).mul (R.we_real a e)).add (R.be_real e)

/-- The block is the layer on its tokens. -/
theorem block_eq (w1 w3 : FVec Ideal S16x1024x256 .bf16) (w2 : FVec Ideal S16x256x1024 .bf16)
    (W1 W3 : FVec Ideal Cert.ReferenceIdeal.S16x1024x256 .f32) (W2 : FVec Ideal Cert.ReferenceIdeal.S16x256x1024 .f32)
    (h1 : ∀ e a f, w1 (ix3 e a f) = W1 (ix3 e a f)) (h3 : ∀ e a f, w3 (ix3 e a f) = W3 (ix3 e a f)) (h2 : ∀ e f d, w2 (ix3 e f d) = W2 (ix3 e f d))
    (t : Fin 512) (d : Fin 1024) :
    blockV x g wr br u w1 w3 w2 (ix2 t d) = layerR X gain wg bg we be W1 W3 W2 (ix2 (n t) d) := by
  choose gl hgl using fun m j => gl_real R X m j
  choose el hel using fun m e => el_real R X m e
  have hv := fun m => el4R_val _ _ m (gl m) (el m) (hgl m) (hel m)
  have f1 := fun m => first_real m _ (gl m) (hgl m)
  have f2 := fun m => first_real m _ _ (hv m)
  have f3 := fun m => second_real m _ _ (hv m)
  have hg : ∀ (t : Fin 512) (j : Fin 4), logitV (truncf .bf16 (normV x g) (by decide)) wr br (ix2 ⟨j.val, by omega⟩ t) = (gl (n t) j : EReal) :=
    fun t j => (gl_same R x X n hx t j).trans (hgl (n t) j)
  have he : ∀ (t : Fin 512) (e : Fin 16), logitV (truncf .bf16 (normV x g) (by decide)) wr br (ix2 ⟨4 + e.val, by omega⟩ t) = (el (n t) e : EReal) :=
    fun t e => (el_same R x X n hx t e).trans (hel (n t) e)
  have hk : ∀ t : Fin 512, gidxV (logitV (truncf .bf16 (normV x g) (by decide)) wr br) (ix2 0 t) = (((ord (glR (normR X gain) wg bg) (n t) 0).val : ℝ) : EReal) :=
    fun t => gidx_val _ t (gl (n t)) (hg t) _ (f1 (n t))
  have hG : ∀ (t : Fin 512) (e : Fin 16), gatesV (logitV (truncf .bf16 (normV x g) (by decide)) wr br) (ix2 ⟨4 + e.val, by omega⟩ t)
      = ((gateOf (gl (n t)) (el (n t)) (ord (glR (normR X gain) wg bg) (n t) 0)
        (ord (el4R (glR (normR X gain) wg bg) (elR (normR X gain) we be)) (n t) 0)
        (ord (el4R (glR (normR X gain) wg bg) (elR (normR X gain) we be)) (n t) 1) e : ℝ) : EReal) :=
    fun t e => gates_val _ t (gl (n t)) (el (n t)) (hg t) (he t) _ _ _ (f1 (n t)) (f2 (n t)) (f3 (n t)) e
  refine (steps_val (truncf .bf16 (normV x g) (by decide)) _ _ u w1 w3 w2 _ _ hk R.tri hG
    (fun t g j hne => gateOf_group _ _ _ _ _ g j hne) x t d).trans ?_
  rw [layerR_apply, hx]
  refine congrArg (X (ix2 (n t) d) + ·) (Finset.sum_congr rfl fun e _ => ?_)
  rw [gatesR_val _ _ (n t) (gl (n t)) (el (n t)) (hgl (n t)) (hel (n t)) e]
  unfold exAt
  have hn : ∀ a, truncf .bf16 (normV x g) (by decide) (ix2 t a) = normR X gain (ix2 (n t) a) := norm_same R x X n hx t
  simp only [h1, h2, h3, hn]
end Cert.Moe
-- ==== Proof.Moe.Tri.lean ====
module
/- The triangle's word comparison. -/
public import Idealize.ShloMosaic.Lib.Pointwise
@[expose] public section
noncomputable section
namespace Cert.Moe
open Idealize.ShloMosaic
/-- Zero on and below the diagonal, one above it. -/
theorem tri_word (s t : Fin 512) :
    (Scalar.select (IntOp.cmpi CmpIPredicate.sge (IntOp.addi (BitVec.ofNat 32 s.val) 0#32) (BitVec.ofNat 32 t.val)) (0 : EReal) 1) = if s < t then (1 : EReal) else 0 := by
  have : IntOp.cmpi CmpIPredicate.sge (IntOp.addi (BitVec.ofNat 32 s.val) 0#32) (BitVec.ofNat 32 t.val) = BitVec.ofBool (decide (t ≤ s)) := by
    show BitVec.ofBool _ = _
    congr 1
    have hs : (BitVec.ofNat 32 s.val + 0#32).toInt = s.val := by
      rw [BitVec.add_zero, BitVec.toInt_eq_toNat_of_lt (by rw [BitVec.toNat_ofNat]; omega), BitVec.toNat_ofNat, Nat.mod_eq_of_lt (by omega)]
    have ht : (BitVec.ofNat 32 t.val).toInt = t.val := by
      rw [BitVec.toInt_eq_toNat_of_lt (by rw [BitVec.toNat_ofNat]; omega), BitVec.toNat_ofNat, Nat.mod_eq_of_lt (by omega)]
    show decide ((BitVec.ofNat 32 t.val).toInt ≤ (BitVec.ofNat 32 s.val + 0#32).toInt) = _
    rw [hs, ht]
    exact decide_eq_decide.mpr (by rw [Fin.le_def]; omega)
  rw [this]
  by_cases h : s < t
  · rw [if_pos h, decide_eq_false (not_le.mpr h)]; rfl
  · rw [if_neg h, decide_eq_true (not_lt.mp h)]; rfl
end Cert.Moe
-- ==== Proof.Moe.WinKernelIdeal.lean ====
module
/- What the call's windows hold, read off the arguments: the token block, the gain, the rows of the router's two matrices
   with their rounding rest below, the biases, the triangle and the three expert weights. -/
public import proofs.«01_k».proof.Proof.KernelIdeal.Run
public import proofs.«01_k».proof.Proof.Moe.Equal
public import proofs.«01_k».proof.Proof.Moe.Tri
public import Idealize.ShloMosaic.Lib.StableHlo.ReadAt
public import Idealize.ShloMosaic.Lib.Pipeline.ValueKit.Point
@[expose] public section
noncomputable section
namespace Cert.Moe.KernelIdeal
open Idealize.ShloMosaic Idealize.ShloMosaic.TcCoe
open Cert.KernelIdeal Cert.KernelIdeal.Gen Cert.KernelIdeal.Hand

/-- The block of window 0 at each grid point. -/
theorem idx0 : ∀ t : Fin cfg0.N, win0_0.index t = ![t.val, 0] := by decide +kernel
/-- The block of window 1 at each grid point. -/
theorem idx1 : ∀ t : Fin cfg0.N, win0_1.index t = ![t.val, 0] := by decide +kernel
/-- The block of window 2 at each grid point. -/
theorem idx2 : ∀ t : Fin cfg0.N, win0_2.index t = ![0, 0] := by decide +kernel
/-- The block of window 3 at each grid point. -/
theorem idx3 : ∀ t : Fin cfg0.N, win0_3.index t = ![0, 0] := by decide +kernel
/-- The block of window 4 at each grid point. -/
theorem idx4 : ∀ t : Fin cfg0.N, win0_4.index t = ![0, 0] := by decide +kernel
/-- The block of window 5 at each grid point. -/
theorem idx5 : ∀ t : Fin cfg0.N, win0_5.index t = ![0, 0] := by decide +kernel
/-- The block of window 6 at each grid point. -/
theorem idx6 : ∀ t : Fin cfg0.N, win0_6.index t = ![0, 0] := by decide +kernel
/-- The block of window 7 at each grid point. -/
theorem idx7 : ∀ t : Fin cfg0.N, win0_7.index t = ![0, 0, 0] := by decide +kernel
/-- The block of window 8 at each grid point. -/
theorem idx8 : ∀ t : Fin cfg0.N, win0_8.index t = ![0, 0, 0] := by decide +kernel
/-- The block of window 9 at each grid point. -/
theorem idx9 : ∀ t : Fin cfg0.N, win0_9.index t = ![0, 0, 0] := by decide +kernel
/-- The block of window 10 at each grid point. -/
theorem idx10 : ∀ t : Fin cfg0.N, win0_10.index t = ![0, 0] := by decide +kernel
/-- The block of window 11 at each grid point. -/
theorem idx11 : ∀ t : Fin cfg0.N, win0_11.index t = ![t.val, 0] := by decide +kernel

/-- The token in place `s` of the block of grid point `t`. -/
def tok (t : Fin cfg0.N) (s : Fin 512) : Fin 32768 := ⟨512 * t.val + s.val, by have := t.isLt; have h : cfg0.N = 64 := rfl; omega⟩

variable (m : (ℓ : Loc nD τ sig) → Buf (Elt Ideal) ℓ) (c : Dev nD) (t : Fin cfg0.N)
/-- The block of tokens. -/
theorem in0 (s : Fin 512) (d : Fin 1024) : iblk m c 0 t (ix2 s d) = m ((c.tc : Thread nD τ).loc main_arg0) (ix2 (tok t s) d) := by
  rw [← V_main_arg0 m c]
  blk_ext [iblk, V, idx0 t, tok]

/-- The block of the attention output. -/
theorem in1 (s : Fin 512) (d : Fin 1024) : iblk m c 1 t (ix2 s d) = m ((c.tc : Thread nD τ).loc main_arg9) (ix2 (tok t s) d) := by
  rw [← V_main_arg9 m c]
  blk_ext [iblk, V, idx1 t, tok]

/-- Window 2 holds its whole array at every grid point. -/
theorem all2 : iblk m c 2 t = V m c main_v14 := by
  blk_ext! [iblk, V, idx2 t]
/-- Window 3 holds its whole array at every grid point. -/
theorem all3 : iblk m c 3 t = V m c main_v15 := by
  blk_ext! [iblk, V, idx3 t]
/-- Window 4 holds its whole array at every grid point. -/
theorem all4 : iblk m c 4 t = V m c main_v16 := by
  blk_ext! [iblk, V, idx4 t]
/-- Window 5 holds its whole array at every grid point. -/
theorem all5 : iblk m c 5 t = V m c main_v10 := by
  blk_ext! [iblk, V, idx5 t]
/-- Window 6 holds its whole array at every grid point. -/
theorem all6 : iblk m c 6 t = V m c main_v13 := by
  blk_ext! [iblk, V, idx6 t]
/-- Window 7 holds its whole array at every grid point. -/
theorem all7 : iblk m c 7 t = V m c main_v17 := by
  blk_ext! [iblk, V, idx7 t]
/-- Window 8 holds its whole array at every grid point. -/
theorem all8 : iblk m c 8 t = V m c main_v18 := by
  blk_ext! [iblk, V, idx8 t]
/-- Window 9 holds its whole array at every grid point. -/
theorem all9 : iblk m c 9 t = V m c main_v19 := by
  blk_ext! [iblk, V, idx9 t]
/-- Window 10 holds its whole array at every grid point. -/
theorem all10 : iblk m c 10 t = V m c main_v20 := by
  blk_ext! [iblk, V, idx10 t]

/-- The gain, laid out as a row. -/
theorem gain_read (a : Fin 1024) : V m c main_v15 (ix2 0 a) = m ((c.tc : Thread nD τ).loc main_arg1) (ix1 a) := by
  unfold V; after_reads_at
/-- The triangle. -/
theorem tri_read (s t : Fin 512) : V m c main_v13 (ix2 s t) = if s < t then (1 : EReal) else 0 := by
  unfold V; after_reads_at; exact tri_word s t
/-- The group weights are the first four rows. -/
theorem wg_read (j : Fin 4) (a : Fin 1024) : V m c main_v16 (ix2 ⟨j.val, hi4 j⟩ a) = m ((c.tc : Thread nD τ).loc main_arg2) (ix2 a j) := by
  unfold V; after_reads_at; rw [dif_pos (by omega)]; after_reads_at
/-- The expert weights are the next sixteen. -/
theorem we_read (e : Fin 16) (a : Fin 1024) : V m c main_v16 (ix2 ⟨4 + e.val, hi16 e⟩ a) = m ((c.tc : Thread nD τ).loc main_arg4) (ix2 a e) := by
  unfold V; after_reads_at; rw [dif_pos (by omega)]; after_reads_at
/-- The rounding rests vanish where the weights are real. -/
theorem low_read (hg : ∀ i, Real' (m ((c.tc : Thread nD τ).loc main_arg2) i)) (he : ∀ i, Real' (m ((c.tc : Thread nD τ).loc main_arg4) i)) (r : Fin 20) (a : Fin 1024) :
    V m c main_v16 (ix2 ⟨32 + r.val, lo20 r⟩ a) = (0 : EReal) := by
  unfold V; after_reads_at
  by_cases hr : r.val < 4
  · rw [dif_pos hr]; after_reads_at; exact (hg _).sub_self
  · rw [dif_neg hr]; after_reads_at; rw [dif_pos (by omega)]; exact (he _).sub_self
/-- The group biases are the first four. -/
theorem bg_read (j : Fin 4) : V m c main_v10 (ix2 ⟨j.val, row4 j⟩ 0) = m ((c.tc : Thread nD τ).loc main_arg3) (ix1 j) := by
  unfold V; after_reads_at; after_reads_at
/-- The expert biases are the next sixteen. -/
theorem be_read (e : Fin 16) : V m c main_v10 (ix2 ⟨4 + e.val, row16 e⟩ 0) = m ((c.tc : Thread nD τ).loc main_arg5) (ix1 e) := by
  unfold V; after_reads_at; after_reads_at
/-- The weights of argument 6, rounded: over the reals the argument itself. -/
theorem w1_read (e : Fin 16) (a : Fin 1024) (f : Fin 256) : V m c main_v17 (ix3 e a f) = m ((c.tc : Thread nD τ).loc main_arg6) (ix3 e a f) := by
  unfold V; after_reads_at
/-- The weights of argument 7, rounded: over the reals the argument itself. -/
theorem w3_read (e : Fin 16) (a : Fin 1024) (f : Fin 256) : V m c main_v18 (ix3 e a f) = m ((c.tc : Thread nD τ).loc main_arg7) (ix3 e a f) := by
  unfold V; after_reads_at
/-- The weights of argument 8, rounded: over the reals the argument itself. -/
theorem w2_read (e : Fin 16) (a : Fin 256) (f : Fin 1024) : V m c main_v19 (ix3 e a f) = m ((c.tc : Thread nD τ).loc main_arg8) (ix3 e a f) := by
  unfold V; after_reads_at
/-- The output projection. -/
theorem wo_read (a d : Fin 1024) : V m c main_v14 (ix2 a d) = m ((c.tc : Thread nD τ).loc main_arg10) (ix2 a d) := by
  unfold V; after_reads_at
/-- The final gain, laid out as a row. -/
theorem final_read (d : Fin 1024) : V m c main_v20 (ix2 0 d) = m ((c.tc : Thread nD τ).loc main_arg11) (ix1 d) := by
  unfold V; after_reads_at

end Cert.Moe.KernelIdeal
-- ==== Proof.Moe.Loads.lean ====
module
/- Whole windows read back. -/
public import proofs.«01_k».proof.Proof.Moe.Vec
public import Idealize.ShloMosaic.Lib.Pipeline.ValueKit
@[expose] public section
noncomputable section
namespace Cert.Moe
open Idealize.ShloMosaic
open Cert.KernelIdeal Cert.KernelIdeal.Facts Cert.KernelIdeal.Gen

abbrev ldT (x : FVec Ideal S512x1024 .f32) : FVec Ideal S512x1024 .f32 :=
  View.ld (Val := Elt Ideal) (e' := .f32) x (Rect.unit (s := S512x1024) ![0, 0] S512x1024.size inb_S512x1024_S512x1024_0_0)
theorem ldT_eq (x : FVec Ideal S512x1024 .f32) : ldT x = x :=
  View.ld_unit_lit (Val := Elt Ideal) (S := S512x1024) (e := .f32) (off := ![0, 0]) inb_S512x1024_S512x1024_0_0 x (by decide)
abbrev ldB (x : FVec Ideal S512x1024 .bf16) : FVec Ideal S512x1024 .bf16 :=
  View.ld (Val := Elt Ideal) (e' := .bf16) x (Rect.unit (s := S512x1024) ![0, 0] S512x1024.size inb_S512x1024_S512x1024_0_0)
theorem ldB_eq (x : FVec Ideal S512x1024 .bf16) : ldB x = x :=
  View.ld_unit_lit (Val := Elt Ideal) (S := S512x1024) (e := .bf16) (off := ![0, 0]) inb_S512x1024_S512x1024_0_0 x (by decide)
abbrev ldQ (x : FVec Ideal S1024x1024 .bf16) : FVec Ideal S1024x1024 .bf16 :=
  View.ld (Val := Elt Ideal) (e' := .bf16) x (Rect.unit (s := S1024x1024) ![0, 0] S1024x1024.size inb_S1024x1024_S1024x1024_0_0)
theorem ldQ_eq (x : FVec Ideal S1024x1024 .bf16) : ldQ x = x :=
  View.ld_unit_lit (Val := Elt Ideal) (S := S1024x1024) (e := .bf16) (off := ![0, 0]) inb_S1024x1024_S1024x1024_0_0 x (by decide)
abbrev ldG (x : FVec Ideal S1x1024 .f32) : FVec Ideal S1x1024 .f32 :=
  View.ld (Val := Elt Ideal) (e' := .f32) x (Rect.unit (s := S1x1024) ![0, 0] S1x1024.size inb_S1x1024_S1x1024_0_0)
theorem ldG_eq (x : FVec Ideal S1x1024 .f32) : ldG x = x :=
  View.ld_unit_lit (Val := Elt Ideal) (S := S1x1024) (e := .f32) (off := ![0, 0]) inb_S1x1024_S1x1024_0_0 x (by decide)
abbrev ldW (x : FVec Ideal S64x1024 .bf16) : FVec Ideal S64x1024 .bf16 :=
  View.ld (Val := Elt Ideal) (e' := .bf16) x (Rect.unit (s := S64x1024) ![0, 0] S64x1024.size inb_S64x1024_S64x1024_0_0)
theorem ldW_eq (x : FVec Ideal S64x1024 .bf16) : ldW x = x :=
  View.ld_unit_lit (Val := Elt Ideal) (S := S64x1024) (e := .bf16) (off := ![0, 0]) inb_S64x1024_S64x1024_0_0 x (by decide)
abbrev ldR (x : FVec Ideal S32x1 .f32) : FVec Ideal S32x1 .f32 :=
  View.ld (Val := Elt Ideal) (e' := .f32) x (Rect.unit (s := S32x1) ![0, 0] S32x1.size inb_S32x1_S32x1_0_0)
theorem ldR_eq (x : FVec Ideal S32x1 .f32) : ldR x = x :=
  View.ld_unit_lit (Val := Elt Ideal) (S := S32x1) (e := .f32) (off := ![0, 0]) inb_S32x1_S32x1_0_0 x (by decide)
abbrev ldU (x : FVec Ideal S512x512 .bf16) : FVec Ideal S512x512 .bf16 :=
  View.ld (Val := Elt Ideal) (e' := .bf16) x (Rect.unit (s := S512x512) ![0, 0] S512x512.size inb_S512x512_S512x512_0_0)
theorem ldU_eq (x : FVec Ideal S512x512 .bf16) : ldU x = x :=
  View.ld_unit_lit (Val := Elt Ideal) (S := S512x512) (e := .bf16) (off := ![0, 0]) inb_S512x512_S512x512_0_0 x (by decide)

end Cert.Moe
-- ==== Proof.Moe.BridgeKernelIdeal.lean ====
module
/- The stored block of KernelIdeal is the block through the mixture of experts. -/
public import proofs.«01_k».proof.Proof.Moe.Loads
public import proofs.«01_k».proof.Proof.KernelIdeal.Val
@[expose] public section
noncomputable section
namespace Cert.Moe.KernelIdeal
open Idealize.ShloMosaic
open Cert.KernelIdeal Cert.KernelIdeal.Facts
open Cert.KernelIdeal.Gen Cert.KernelIdeal.Hand
variable (x0 : FVec Ideal S512x1024 .f32) (x1 : FVec Ideal S512x1024 .bf16) (x2 : FVec Ideal S1024x1024 .bf16) (x3 : FVec Ideal S1x1024 .f32) (x4 : FVec Ideal S64x1024 .bf16) (x5 : FVec Ideal S32x1 .f32) (x6 : FVec Ideal S512x512 .bf16) (x7 : FVec Ideal S16x1024x256 .bf16) (x8 : FVec Ideal S16x1024x256 .bf16) (x9 : FVec Ideal S16x256x1024 .bf16) (x10 : FVec Ideal S1x1024 .f32)

theorem hn_eq : b_v21 (F := Ideal) x0 x1 x2 x3 x4 x5 x6 x7 x8 x9 x10 =
    truncf .bf16 (normV (k0_pay26 (ldT x0) (ldB x1) (ldQ x2)) (ldG x3)) bitsLt_bf16_f32 := rfl
theorem logit_eq : b_v31 (F := Ideal) x0 x1 x2 x3 x4 x5 x6 x7 x8 x9 x10 =
    logitV (b_v21 (F := Ideal) x0 x1 x2 x3 x4 x5 x6 x7 x8 x9 x10) (ldW x4) (ldR x5) := rfl
theorem gidx_eq : b_v45 (F := Ideal) x0 x1 x2 x3 x4 x5 x6 x7 x8 x9 x10 =
    gidxV (b_v31 (F := Ideal) x0 x1 x2 x3 x4 x5 x6 x7 x8 x9 x10) := rfl
theorem gates_eq : b_v107 (F := Ideal) x0 x1 x2 x3 x4 x5 x6 x7 x8 x9 x10 =
    gatesV (b_v31 (F := Ideal) x0 x1 x2 x3 x4 x5 x6 x7 x8 x9 x10) := rfl
theorem onehot_eq : b_v114 (F := Ideal) x0 x1 x2 x3 x4 x5 x6 x7 x8 x9 x10 =
    onehotV (b_v45 (F := Ideal) x0 x1 x2 x3 x4 x5 x6 x7 x8 x9 x10) := rfl
theorem placed_eq : b_v123 (F := Ideal) x0 x1 x2 x3 x4 x5 x6 x7 x8 x9 x10 =
    placedV (b_v45 (F := Ideal) x0 x1 x2 x3 x4 x5 x6 x7 x8 x9 x10) (ldU x6) := rfl
theorem sel_eq : b_v136 (F := Ideal) x0 x1 x2 x3 x4 x5 x6 x7 x8 x9 x10 =
    selV (slotV (b_v45 (F := Ideal) x0 x1 x2 x3 x4 x5 x6 x7 x8 x9 x10) (ldU x6)) := rfl
theorem xs_eq : b_v145 (F := Ideal) x0 x1 x2 x3 x4 x5 x6 x7 x8 x9 x10 =
    xsV (b_v21 (F := Ideal) x0 x1 x2 x3 x4 x5 x6 x7 x8 x9 x10) (slotV (b_v45 (F := Ideal) x0 x1 x2 x3 x4 x5 x6 x7 x8 x9 x10) (ldU x6)) := rfl
theorem gs_eq : b_v150 (F := Ideal) x0 x1 x2 x3 x4 x5 x6 x7 x8 x9 x10 =
    gsV (b_v107 (F := Ideal) x0 x1 x2 x3 x4 x5 x6 x7 x8 x9 x10) (slotV (b_v45 (F := Ideal) x0 x1 x2 x3 x4 x5 x6 x7 x8 x9 x10) (ldU x6)) := rfl
theorem grp0_eq : b_v252 (F := Ideal) x0 x1 x2 x3 x4 x5 x6 x7 x8 x9 x10 =
    grpV (b_v145 (F := Ideal) x0 x1 x2 x3 x4 x5 x6 x7 x8 x9 x10) (b_v150 (F := Ideal) x0 x1 x2 x3 x4 x5 x6 x7 x8 x9 x10) x7 x8 x9 0 := rfl
theorem grp1_eq : b_v347 (F := Ideal) x0 x1 x2 x3 x4 x5 x6 x7 x8 x9 x10 =
    grpV (b_v145 (F := Ideal) x0 x1 x2 x3 x4 x5 x6 x7 x8 x9 x10) (b_v150 (F := Ideal) x0 x1 x2 x3 x4 x5 x6 x7 x8 x9 x10) x7 x8 x9 1 := rfl
theorem grp2_eq : b_v442 (F := Ideal) x0 x1 x2 x3 x4 x5 x6 x7 x8 x9 x10 =
    grpV (b_v145 (F := Ideal) x0 x1 x2 x3 x4 x5 x6 x7 x8 x9 x10) (b_v150 (F := Ideal) x0 x1 x2 x3 x4 x5 x6 x7 x8 x9 x10) x7 x8 x9 2 := rfl
theorem base0_eq : b_base0 (F := Ideal) x0 x1 x2 x3 x4 x5 x6 x7 x8 x9 x10 =
    backV (k0_pay26 (ldT x0) (ldB x1) (ldQ x2)) (slotV (b_v45 (F := Ideal) x0 x1 x2 x3 x4 x5 x6 x7 x8 x9 x10) (ldU x6)) (grpV (b_v145 (F := Ideal) x0 x1 x2 x3 x4 x5 x6 x7 x8 x9 x10) (b_v150 (F := Ideal) x0 x1 x2 x3 x4 x5 x6 x7 x8 x9 x10) x7 x8 x9) := rfl
theorem over0_eq (b : FVec Ideal S512x1024 .f32) : b_over0 (F := Ideal) x0 x1 x2 x3 x4 x5 x6 x7 x8 x9 x10 b =
    overV b (b_v21 (F := Ideal) x0 x1 x2 x3 x4 x5 x6 x7 x8 x9 x10) (leftV (b_v123 (F := Ideal) x0 x1 x2 x3 x4 x5 x6 x7 x8 x9 x10) (b_v107 (F := Ideal) x0 x1 x2 x3 x4 x5 x6 x7 x8 x9 x10)) x7 x8 x9 0 := rfl
theorem over1_eq (b : FVec Ideal S512x1024 .f32) : b_over1 (F := Ideal) x0 x1 x2 x3 x4 x5 x6 x7 x8 x9 x10 b =
    overV b (b_v21 (F := Ideal) x0 x1 x2 x3 x4 x5 x6 x7 x8 x9 x10) (leftV (b_v123 (F := Ideal) x0 x1 x2 x3 x4 x5 x6 x7 x8 x9 x10) (b_v107 (F := Ideal) x0 x1 x2 x3 x4 x5 x6 x7 x8 x9 x10)) x7 x8 x9 1 := rfl
theorem over2_eq (b : FVec Ideal S512x1024 .f32) : b_over2 (F := Ideal) x0 x1 x2 x3 x4 x5 x6 x7 x8 x9 x10 b =
    overV b (b_v21 (F := Ideal) x0 x1 x2 x3 x4 x5 x6 x7 x8 x9 x10) (leftV (b_v123 (F := Ideal) x0 x1 x2 x3 x4 x5 x6 x7 x8 x9 x10) (b_v107 (F := Ideal) x0 x1 x2 x3 x4 x5 x6 x7 x8 x9 x10)) x7 x8 x9 2 := rfl
theorem over3_eq (b : FVec Ideal S512x1024 .f32) : b_over3 (F := Ideal) x0 x1 x2 x3 x4 x5 x6 x7 x8 x9 x10 b =
    overV b (b_v21 (F := Ideal) x0 x1 x2 x3 x4 x5 x6 x7 x8 x9 x10) (leftV (b_v123 (F := Ideal) x0 x1 x2 x3 x4 x5 x6 x7 x8 x9 x10) (b_v107 (F := Ideal) x0 x1 x2 x3 x4 x5 x6 x7 x8 x9 x10)) x7 x8 x9 3 := rfl
theorem count0_eq (v : FVec Ideal S16x512 .f32) : k0_pay96 (F := Ideal) v = countV v 0 := rfl
theorem count1_eq (v : FVec Ideal S16x512 .f32) : k0_pay98 (F := Ideal) v = countV v 1 := rfl
theorem count2_eq (v : FVec Ideal S16x512 .f32) : k0_pay100 (F := Ideal) v = countV v 2 := rfl
theorem count3_eq (v : FVec Ideal S16x512 .f32) : k0_pay102 (F := Ideal) v = countV v 3 := rfl
theorem base1_eq : b_base1 (F := Ideal) x0 x1 x2 x3 x4 x5 x6 x7 x8 x9 x10 =
    stepV (b_base0 (F := Ideal) x0 x1 x2 x3 x4 x5 x6 x7 x8 x9 x10) (b_v21 (F := Ideal) x0 x1 x2 x3 x4 x5 x6 x7 x8 x9 x10) (b_v114 (F := Ideal) x0 x1 x2 x3 x4 x5 x6 x7 x8 x9 x10) (leftV (b_v123 (F := Ideal) x0 x1 x2 x3 x4 x5 x6 x7 x8 x9 x10) (b_v107 (F := Ideal) x0 x1 x2 x3 x4 x5 x6 x7 x8 x9 x10)) x7 x8 x9 0 := by
  unfold b_base1 stepV moreV
  rw [over0_eq, count0_eq]
theorem base2_eq : b_base2 (F := Ideal) x0 x1 x2 x3 x4 x5 x6 x7 x8 x9 x10 =
    stepV (b_base1 (F := Ideal) x0 x1 x2 x3 x4 x5 x6 x7 x8 x9 x10) (b_v21 (F := Ideal) x0 x1 x2 x3 x4 x5 x6 x7 x8 x9 x10) (b_v114 (F := Ideal) x0 x1 x2 x3 x4 x5 x6 x7 x8 x9 x10) (leftV (b_v123 (F := Ideal) x0 x1 x2 x3 x4 x5 x6 x7 x8 x9 x10) (b_v107 (F := Ideal) x0 x1 x2 x3 x4 x5 x6 x7 x8 x9 x10)) x7 x8 x9 1 := by
  unfold b_base2 stepV moreV
  rw [over1_eq, count1_eq]
theorem base3_eq : b_base3 (F := Ideal) x0 x1 x2 x3 x4 x5 x6 x7 x8 x9 x10 =
    stepV (b_base2 (F := Ideal) x0 x1 x2 x3 x4 x5 x6 x7 x8 x9 x10) (b_v21 (F := Ideal) x0 x1 x2 x3 x4 x5 x6 x7 x8 x9 x10) (b_v114 (F := Ideal) x0 x1 x2 x3 x4 x5 x6 x7 x8 x9 x10) (leftV (b_v123 (F := Ideal) x0 x1 x2 x3 x4 x5 x6 x7 x8 x9 x10) (b_v107 (F := Ideal) x0 x1 x2 x3 x4 x5 x6 x7 x8 x9 x10)) x7 x8 x9 2 := by
  unfold b_base3 stepV moreV
  rw [over2_eq, count2_eq]
theorem norm_eq (b : FVec Ideal S512x1024 .f32) (g : FVec Ideal S1x1024 .f32) :
    k0_pay1 (F := Ideal) (k0_pay104 b) (k0_pay105 b) g = normV (shapeCast S512x1024 b shapeCasts_S512x1024_S512x1024) g := rfl
theorem last_eq : outB (F := Ideal) x0 x1 x2 x3 x4 x5 x6 x7 x8 x9 x10 =
    normV (shapeCast S512x1024 (stepV (b_base3 (F := Ideal) x0 x1 x2 x3 x4 x5 x6 x7 x8 x9 x10) (b_v21 (F := Ideal) x0 x1 x2 x3 x4 x5 x6 x7 x8 x9 x10) (b_v114 (F := Ideal) x0 x1 x2 x3 x4 x5 x6 x7 x8 x9 x10) (leftV (b_v123 (F := Ideal) x0 x1 x2 x3 x4 x5 x6 x7 x8 x9 x10) (b_v107 (F := Ideal) x0 x1 x2 x3 x4 x5 x6 x7 x8 x9 x10)) x7 x8 x9 3) shapeCasts_S512x1024_S512x1024) (ldG x10) := by
  unfold stepV moreV
  unfold outB b_v574 b_v577
  rw [norm_eq, over3_eq, count3_eq]

/-- The stored block. -/
theorem outB_eq : outB (F := Ideal) x0 x1 x2 x3 x4 x5 x6 x7 x8 x9 x10 =
    normV (blockV (k0_pay26 x0 x1 x2) x3 x4 x5 x6 x7 x8 x9) x10 := by
  rw [last_eq, base3_eq, base2_eq, base1_eq, base0_eq, xs_eq, gs_eq, onehot_eq, placed_eq, gates_eq, gidx_eq, logit_eq, hn_eq]
  simp only [ldT_eq, ldB_eq, ldQ_eq, ldG_eq, ldW_eq, ldR_eq, ldU_eq, shapeCast_id]
  rfl

end Cert.Moe.KernelIdeal
-- ==== Proof.Moe.OutKernelIdeal.lean ====
module
/- The result array of the call is the layer of its arguments: each block is the layer on the block's tokens, and the blocks
   cover the array. -/
public import proofs.«01_k».proof.Proof.Moe.WinKernelIdeal
public import proofs.«01_k».proof.Proof.Moe.BridgeKernelIdeal
public import Idealize.ShloMosaic.Lib.Pipeline.ValueKit
@[expose] public section
set_option maxRecDepth 16384
noncomputable section
namespace Cert.Moe.KernelIdeal
open Idealize.ShloMosaic Idealize.ShloMosaic.TcCoe Cert.Moe.Ref
open Cert.KernelIdeal Cert.KernelIdeal.Gen Cert.KernelIdeal.Hand

variable (m : (ℓ : Loc nD τ sig) → Buf (Elt Ideal) ℓ) (c : Dev nD) (t : Fin cfg0.N)

/-- The router arrays hold reals. -/
structure Fin' : Prop where
  gain : ∀ i, Real' ((m ((c.tc : Thread nD τ).loc main_arg1)) i)
  wg : ∀ i, Real' ((m ((c.tc : Thread nD τ).loc main_arg2)) i)
  bg : ∀ i, Real' ((m ((c.tc : Thread nD τ).loc main_arg3)) i)
  we : ∀ i, Real' ((m ((c.tc : Thread nD τ).loc main_arg4)) i)
  be : ∀ i, Real' ((m ((c.tc : Thread nD τ).loc main_arg5)) i)

/-- The call's windows hold the router's arguments. -/
theorem router (h : Fin' m c) : Router (iblk m c 3 t) (iblk m c 4 t) (iblk m c 5 t) (iblk m c 6 t) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [all3, all4, all5, all6]
  exact ⟨gain_read m c, wg_read m c, we_read m c, low_read m c h.wg h.we, bg_read m c, be_read m c, tri_read m c,
    fun a => h.gain _, fun a j => h.wg _, fun j => h.bg _, fun a e => h.we _, fun e => h.be _⟩

/-- The residual stream's block, at an element. -/
theorem stream_apply (x0 : FVec Ideal S512x1024 .f32) (x1 : FVec Ideal S512x1024 .bf16) (x2 : FVec Ideal S1024x1024 .bf16) (s : Fin 512) (d : Fin 1024) :
    k0_pay26 x0 x1 x2 (ix2 s d) = x0 (ix2 s d) + ∑ a, x1 (ix2 s a) * x2 (ix2 a d) := by
  pointwise [k0_pay26]
/-- Equal terms have equal sums and products. -/
theorem dot_congr {x y : EReal} {f f' g g' : Fin 1024 → EReal} (h : x = y) (hf : ∀ a, f a = f' a) (hg : ∀ a, g a = g' a) :
    x + ∑ a, f a * g a = y + ∑ a, f' a * g' a := by
  rw [h, funext hf, funext hg]
/-- It is the stream of the block's tokens. -/
theorem stream (s : Fin 512) (d : Fin 1024) : (k0_pay26 (iblk m c 0 t) (iblk m c 1 t) (iblk m c 2 t)) (ix2 s d) = (inR (m ((c.tc : Thread nD τ).loc main_arg0)) (m ((c.tc : Thread nD τ).loc main_arg9)) (m ((c.tc : Thread nD τ).loc main_arg10))) (ix2 (tok t s) d) := by
  rw [inR_apply, stream_apply, all2]
  exact dot_congr (in0 m c t s d) (fun a => in1 m c t s a) (fun a => wo_read m c a d)

/-- The expert block is the layer on its tokens. -/
theorem moe (h : Fin' m c) (s : Fin 512) (d : Fin 1024) :
    blockV (k0_pay26 (iblk m c 0 t) (iblk m c 1 t) (iblk m c 2 t)) (iblk m c 3 t) (iblk m c 4 t) (iblk m c 5 t) (iblk m c 6 t) (iblk m c 7 t) (iblk m c 8 t) (iblk m c 9 t) (ix2 s d) = layerR (inR (m ((c.tc : Thread nD τ).loc main_arg0)) (m ((c.tc : Thread nD τ).loc main_arg9)) (m ((c.tc : Thread nD τ).loc main_arg10))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 (tok t s) d) :=
  block_eq (router m c t h) (k0_pay26 (iblk m c 0 t) (iblk m c 1 t) (iblk m c 2 t)) (inR (m ((c.tc : Thread nD τ).loc main_arg0)) (m ((c.tc : Thread nD τ).loc main_arg9)) (m ((c.tc : Thread nD τ).loc main_arg10))) (tok t) (stream m c t) _ _ _ _ _ _
    (fun e a f => by rw [all7, w1_read]) (fun e a f => by rw [all8, w3_read]) (fun e f d => by rw [all9, w2_read]) s d

/-- The call's result. -/
def result : FVec Ideal Cert.ReferenceIdeal.S32768x1024 .f32 := normR (layerR (inR (m ((c.tc : Thread nD τ).loc main_arg0)) (m ((c.tc : Thread nD τ).loc main_arg9)) (m ((c.tc : Thread nD τ).loc main_arg10))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg11))

/-- The stored block is the result on the block's tokens. -/
theorem block (h : Fin' m c) (s : Fin 512) (d : Fin 1024) :
    outB (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 s d) = result m c (ix2 (tok t s) d) := by
  rw [outB_eq, normV_apply]
  unfold result
  rw [normR_apply, all10, final_read]
  exact congrArg (fun f => nrm f _ d) (funext fun a => moe m c t h s a)

/-- The array after the run. -/
theorem array (h : Fin' m c) : (dats m 0 c).arrAt 11 (cfgs 0).N = result m c := by
  refine (dats m 0 c).arrAt_eq_of_covers 11 _ (by decide +kernel) fun t hf y => ?_
  blk_simp
  rw [after_11]
  have e : (win0_11.blk t).view.emb y = ix2 (tok t (y 0)) (y 1) := by
    blk_ext [idx11 t, tok]
  rw [e]
  exact (congrArg _ (eq_ix2 y)).trans (block m c t h (y 0) (y 1))

end Cert.Moe.KernelIdeal
-- ==== Proof.Moe.WinKernel2Ideal.lean ====
module
/- What the call's windows hold, read off the arguments: the token block, the gain, the rows of the router's two matrices
   with their rounding rest below, the biases, the triangle and the three expert weights. -/
public import proofs.«01_k».proof.Proof.Kernel2Ideal.Run
public import proofs.«01_k».proof.Proof.Moe.Equal
public import proofs.«01_k».proof.Proof.Moe.Tri
public import Idealize.ShloMosaic.Lib.StableHlo.ReadAt
public import Idealize.ShloMosaic.Lib.Pipeline.ValueKit.Point
@[expose] public section
noncomputable section
namespace Cert.Moe.Kernel2Ideal
open Idealize.ShloMosaic Idealize.ShloMosaic.TcCoe
open Cert.Kernel2Ideal Cert.Kernel2Ideal.Gen Cert.Kernel2Ideal.Hand

/-- The block of window 0 at each grid point. -/
theorem idx0 : ∀ t : Fin cfg0.N, win0_0.index t = ![t.val, 0] := by decide +kernel
/-- The block of window 1 at each grid point. -/
theorem idx1 : ∀ t : Fin cfg0.N, win0_1.index t = ![0, 0] := by decide +kernel
/-- The block of window 2 at each grid point. -/
theorem idx2 : ∀ t : Fin cfg0.N, win0_2.index t = ![0, 0] := by decide +kernel
/-- The block of window 3 at each grid point. -/
theorem idx3 : ∀ t : Fin cfg0.N, win0_3.index t = ![0, 0] := by decide +kernel
/-- The block of window 4 at each grid point. -/
theorem idx4 : ∀ t : Fin cfg0.N, win0_4.index t = ![0, 0] := by decide +kernel
/-- The block of window 5 at each grid point. -/
theorem idx5 : ∀ t : Fin cfg0.N, win0_5.index t = ![0, 0, 0] := by decide +kernel
/-- The block of window 6 at each grid point. -/
theorem idx6 : ∀ t : Fin cfg0.N, win0_6.index t = ![0, 0, 0] := by decide +kernel
/-- The block of window 7 at each grid point. -/
theorem idx7 : ∀ t : Fin cfg0.N, win0_7.index t = ![0, 0, 0] := by decide +kernel
/-- The block of window 8 at each grid point. -/
theorem idx8 : ∀ t : Fin cfg0.N, win0_8.index t = ![t.val, 0] := by decide +kernel

/-- The token in place `s` of the block of grid point `t`. -/
def tok (t : Fin cfg0.N) (s : Fin 512) : Fin 32768 := ⟨512 * t.val + s.val, by have := t.isLt; have h : cfg0.N = 64 := rfl; omega⟩

variable (m : (ℓ : Loc nD τ sig) → Buf (Elt Ideal) ℓ) (c : Dev nD) (t : Fin cfg0.N)
/-- The block of tokens. -/
theorem in0 (s : Fin 512) (d : Fin 1024) : iblk m c 0 t (ix2 s d) = m ((c.tc : Thread nD τ).loc main_arg0) (ix2 (tok t s) d) := by
  rw [← V_main_arg0 m c]
  blk_ext [iblk, V, idx0 t, tok]

/-- Window 1 holds its whole array at every grid point. -/
theorem all1 : iblk m c 1 t = V m c main_v14 := by
  blk_ext! [iblk, V, idx1 t]
/-- Window 2 holds its whole array at every grid point. -/
theorem all2 : iblk m c 2 t = V m c main_v15 := by
  blk_ext! [iblk, V, idx2 t]
/-- Window 3 holds its whole array at every grid point. -/
theorem all3 : iblk m c 3 t = V m c main_v10 := by
  blk_ext! [iblk, V, idx3 t]
/-- Window 4 holds its whole array at every grid point. -/
theorem all4 : iblk m c 4 t = V m c main_v13 := by
  blk_ext! [iblk, V, idx4 t]
/-- Window 5 holds its whole array at every grid point. -/
theorem all5 : iblk m c 5 t = V m c main_v16 := by
  blk_ext! [iblk, V, idx5 t]
/-- Window 6 holds its whole array at every grid point. -/
theorem all6 : iblk m c 6 t = V m c main_v17 := by
  blk_ext! [iblk, V, idx6 t]
/-- Window 7 holds its whole array at every grid point. -/
theorem all7 : iblk m c 7 t = V m c main_v18 := by
  blk_ext! [iblk, V, idx7 t]

/-- The gain, laid out as a row. -/
theorem gain_read (a : Fin 1024) : V m c main_v14 (ix2 0 a) = m ((c.tc : Thread nD τ).loc main_arg1) (ix1 a) := by
  unfold V; after_reads_at
/-- The triangle. -/
theorem tri_read (s t : Fin 512) : V m c main_v13 (ix2 s t) = if s < t then (1 : EReal) else 0 := by
  unfold V; after_reads_at; exact tri_word s t
/-- The group weights are the first four rows. -/
theorem wg_read (j : Fin 4) (a : Fin 1024) : V m c main_v15 (ix2 ⟨j.val, hi4 j⟩ a) = m ((c.tc : Thread nD τ).loc main_arg2) (ix2 a j) := by
  unfold V; after_reads_at; rw [dif_pos (by omega)]; after_reads_at
/-- The expert weights are the next sixteen. -/
theorem we_read (e : Fin 16) (a : Fin 1024) : V m c main_v15 (ix2 ⟨4 + e.val, hi16 e⟩ a) = m ((c.tc : Thread nD τ).loc main_arg4) (ix2 a e) := by
  unfold V; after_reads_at; rw [dif_pos (by omega)]; after_reads_at
/-- The rounding rests vanish where the weights are real. -/
theorem low_read (hg : ∀ i, Real' (m ((c.tc : Thread nD τ).loc main_arg2) i)) (he : ∀ i, Real' (m ((c.tc : Thread nD τ).loc main_arg4) i)) (r : Fin 20) (a : Fin 1024) :
    V m c main_v15 (ix2 ⟨32 + r.val, lo20 r⟩ a) = (0 : EReal) := by
  unfold V; after_reads_at
  by_cases hr : r.val < 4
  · rw [dif_pos hr]; after_reads_at; exact (hg _).sub_self
  · rw [dif_neg hr]; after_reads_at; rw [dif_pos (by omega)]; exact (he _).sub_self
/-- The group biases are the first four. -/
theorem bg_read (j : Fin 4) : V m c main_v10 (ix2 ⟨j.val, row4 j⟩ 0) = m ((c.tc : Thread nD τ).loc main_arg3) (ix1 j) := by
  unfold V; after_reads_at; after_reads_at
/-- The expert biases are the next sixteen. -/
theorem be_read (e : Fin 16) : V m c main_v10 (ix2 ⟨4 + e.val, row16 e⟩ 0) = m ((c.tc : Thread nD τ).loc main_arg5) (ix1 e) := by
  unfold V; after_reads_at; after_reads_at
/-- The weights of argument 6, rounded: over the reals the argument itself. -/
theorem w1_read (e : Fin 16) (a : Fin 1024) (f : Fin 256) : V m c main_v16 (ix3 e a f) = m ((c.tc : Thread nD τ).loc main_arg6) (ix3 e a f) := by
  unfold V; after_reads_at
/-- The weights of argument 7, rounded: over the reals the argument itself. -/
theorem w3_read (e : Fin 16) (a : Fin 1024) (f : Fin 256) : V m c main_v17 (ix3 e a f) = m ((c.tc : Thread nD τ).loc main_arg7) (ix3 e a f) := by
  unfold V; after_reads_at
/-- The weights of argument 8, rounded: over the reals the argument itself. -/
theorem w2_read (e : Fin 16) (a : Fin 256) (f : Fin 1024) : V m c main_v18 (ix3 e a f) = m ((c.tc : Thread nD τ).loc main_arg8) (ix3 e a f) := by
  unfold V; after_reads_at

end Cert.Moe.Kernel2Ideal
-- ==== Proof.Moe.BridgeKernel2Ideal.lean ====
module
/- The stored block of Kernel2Ideal is the block through the mixture of experts. -/
public import proofs.«01_k».proof.Proof.Moe.Loads
public import proofs.«01_k».proof.Proof.Kernel2Ideal.Val
@[expose] public section
noncomputable section
namespace Cert.Moe.Kernel2Ideal
open Idealize.ShloMosaic
open Cert.KernelIdeal Cert.KernelIdeal.Facts
open Cert.Kernel2Ideal.Gen Cert.Kernel2Ideal.Hand
variable (x0 : FVec Ideal S512x1024 .f32) (x1 : FVec Ideal S1x1024 .f32) (x2 : FVec Ideal S64x1024 .bf16) (x3 : FVec Ideal S32x1 .f32) (x4 : FVec Ideal S512x512 .bf16) (x5 : FVec Ideal S16x1024x256 .bf16) (x6 : FVec Ideal S16x1024x256 .bf16) (x7 : FVec Ideal S16x256x1024 .bf16)

theorem hn_eq : b_v16 (F := Ideal) x0 x1 x2 x3 x4 x5 x6 x7 =
    truncf .bf16 (normV (ldT x0) (ldG x1)) bitsLt_bf16_f32 := rfl
theorem logit_eq : b_v26 (F := Ideal) x0 x1 x2 x3 x4 x5 x6 x7 =
    logitV (b_v16 (F := Ideal) x0 x1 x2 x3 x4 x5 x6 x7) (ldW x2) (ldR x3) := rfl
theorem gidx_eq : b_v40 (F := Ideal) x0 x1 x2 x3 x4 x5 x6 x7 =
    gidxV (b_v26 (F := Ideal) x0 x1 x2 x3 x4 x5 x6 x7) := rfl
theorem gates_eq : b_v102 (F := Ideal) x0 x1 x2 x3 x4 x5 x6 x7 =
    gatesV (b_v26 (F := Ideal) x0 x1 x2 x3 x4 x5 x6 x7) := rfl
theorem onehot_eq : b_v109 (F := Ideal) x0 x1 x2 x3 x4 x5 x6 x7 =
    onehotV (b_v40 (F := Ideal) x0 x1 x2 x3 x4 x5 x6 x7) := rfl
theorem placed_eq : b_v118 (F := Ideal) x0 x1 x2 x3 x4 x5 x6 x7 =
    placedV (b_v40 (F := Ideal) x0 x1 x2 x3 x4 x5 x6 x7) (ldU x4) := rfl
theorem sel_eq : b_v131 (F := Ideal) x0 x1 x2 x3 x4 x5 x6 x7 =
    selV (slotV (b_v40 (F := Ideal) x0 x1 x2 x3 x4 x5 x6 x7) (ldU x4)) := rfl
theorem xs_eq : b_v140 (F := Ideal) x0 x1 x2 x3 x4 x5 x6 x7 =
    xsV (b_v16 (F := Ideal) x0 x1 x2 x3 x4 x5 x6 x7) (slotV (b_v40 (F := Ideal) x0 x1 x2 x3 x4 x5 x6 x7) (ldU x4)) := rfl
theorem gs_eq : b_v145 (F := Ideal) x0 x1 x2 x3 x4 x5 x6 x7 =
    gsV (b_v102 (F := Ideal) x0 x1 x2 x3 x4 x5 x6 x7) (slotV (b_v40 (F := Ideal) x0 x1 x2 x3 x4 x5 x6 x7) (ldU x4)) := rfl
theorem grp0_eq : b_v247 (F := Ideal) x0 x1 x2 x3 x4 x5 x6 x7 =
    grpV (b_v140 (F := Ideal) x0 x1 x2 x3 x4 x5 x6 x7) (b_v145 (F := Ideal) x0 x1 x2 x3 x4 x5 x6 x7) x5 x6 x7 0 := rfl
theorem grp1_eq : b_v342 (F := Ideal) x0 x1 x2 x3 x4 x5 x6 x7 =
    grpV (b_v140 (F := Ideal) x0 x1 x2 x3 x4 x5 x6 x7) (b_v145 (F := Ideal) x0 x1 x2 x3 x4 x5 x6 x7) x5 x6 x7 1 := rfl
theorem grp2_eq : b_v437 (F := Ideal) x0 x1 x2 x3 x4 x5 x6 x7 =
    grpV (b_v140 (F := Ideal) x0 x1 x2 x3 x4 x5 x6 x7) (b_v145 (F := Ideal) x0 x1 x2 x3 x4 x5 x6 x7) x5 x6 x7 2 := rfl
theorem base0_eq : b_base0 (F := Ideal) x0 x1 x2 x3 x4 x5 x6 x7 =
    backV (ldT x0) (slotV (b_v40 (F := Ideal) x0 x1 x2 x3 x4 x5 x6 x7) (ldU x4)) (grpV (b_v140 (F := Ideal) x0 x1 x2 x3 x4 x5 x6 x7) (b_v145 (F := Ideal) x0 x1 x2 x3 x4 x5 x6 x7) x5 x6 x7) := rfl
theorem over0_eq (b : FVec Ideal S512x1024 .f32) : b_over0 (F := Ideal) x0 x1 x2 x3 x4 x5 x6 x7 b =
    overV b (b_v16 (F := Ideal) x0 x1 x2 x3 x4 x5 x6 x7) (leftV (b_v118 (F := Ideal) x0 x1 x2 x3 x4 x5 x6 x7) (b_v102 (F := Ideal) x0 x1 x2 x3 x4 x5 x6 x7)) x5 x6 x7 0 := rfl
theorem over1_eq (b : FVec Ideal S512x1024 .f32) : b_over1 (F := Ideal) x0 x1 x2 x3 x4 x5 x6 x7 b =
    overV b (b_v16 (F := Ideal) x0 x1 x2 x3 x4 x5 x6 x7) (leftV (b_v118 (F := Ideal) x0 x1 x2 x3 x4 x5 x6 x7) (b_v102 (F := Ideal) x0 x1 x2 x3 x4 x5 x6 x7)) x5 x6 x7 1 := rfl
theorem over2_eq (b : FVec Ideal S512x1024 .f32) : b_over2 (F := Ideal) x0 x1 x2 x3 x4 x5 x6 x7 b =
    overV b (b_v16 (F := Ideal) x0 x1 x2 x3 x4 x5 x6 x7) (leftV (b_v118 (F := Ideal) x0 x1 x2 x3 x4 x5 x6 x7) (b_v102 (F := Ideal) x0 x1 x2 x3 x4 x5 x6 x7)) x5 x6 x7 2 := rfl
theorem over3_eq (b : FVec Ideal S512x1024 .f32) : b_over3 (F := Ideal) x0 x1 x2 x3 x4 x5 x6 x7 b =
    overV b (b_v16 (F := Ideal) x0 x1 x2 x3 x4 x5 x6 x7) (leftV (b_v118 (F := Ideal) x0 x1 x2 x3 x4 x5 x6 x7) (b_v102 (F := Ideal) x0 x1 x2 x3 x4 x5 x6 x7)) x5 x6 x7 3 := rfl
theorem count0_eq : b_v540 (F := Ideal) x0 x1 x2 x3 x4 x5 x6 x7 = countV (b_v109 (F := Ideal) x0 x1 x2 x3 x4 x5 x6 x7) 0 := rfl
theorem count1_eq (v : FVec Ideal S16x512 .f32) : k0_pay2 (F := Ideal) v = countV v 1 := rfl
theorem count2_eq (v : FVec Ideal S16x512 .f32) : k0_pay4 (F := Ideal) v = countV v 2 := rfl
theorem count3_eq (v : FVec Ideal S16x512 .f32) : k0_pay6 (F := Ideal) v = countV v 3 := rfl
theorem base1_eq : b_base1 (F := Ideal) x0 x1 x2 x3 x4 x5 x6 x7 =
    stepV (b_base0 (F := Ideal) x0 x1 x2 x3 x4 x5 x6 x7) (b_v16 (F := Ideal) x0 x1 x2 x3 x4 x5 x6 x7) (b_v109 (F := Ideal) x0 x1 x2 x3 x4 x5 x6 x7) (leftV (b_v118 (F := Ideal) x0 x1 x2 x3 x4 x5 x6 x7) (b_v102 (F := Ideal) x0 x1 x2 x3 x4 x5 x6 x7)) x5 x6 x7 0 := by
  unfold b_base1 stepV moreV
  rw [over0_eq, count0_eq]
theorem base2_eq : b_base2 (F := Ideal) x0 x1 x2 x3 x4 x5 x6 x7 =
    stepV (b_base1 (F := Ideal) x0 x1 x2 x3 x4 x5 x6 x7) (b_v16 (F := Ideal) x0 x1 x2 x3 x4 x5 x6 x7) (b_v109 (F := Ideal) x0 x1 x2 x3 x4 x5 x6 x7) (leftV (b_v118 (F := Ideal) x0 x1 x2 x3 x4 x5 x6 x7) (b_v102 (F := Ideal) x0 x1 x2 x3 x4 x5 x6 x7)) x5 x6 x7 1 := by
  unfold b_base2 stepV moreV
  rw [over1_eq, count1_eq]
theorem base3_eq : b_base3 (F := Ideal) x0 x1 x2 x3 x4 x5 x6 x7 =
    stepV (b_base2 (F := Ideal) x0 x1 x2 x3 x4 x5 x6 x7) (b_v16 (F := Ideal) x0 x1 x2 x3 x4 x5 x6 x7) (b_v109 (F := Ideal) x0 x1 x2 x3 x4 x5 x6 x7) (leftV (b_v118 (F := Ideal) x0 x1 x2 x3 x4 x5 x6 x7) (b_v102 (F := Ideal) x0 x1 x2 x3 x4 x5 x6 x7)) x5 x6 x7 2 := by
  unfold b_base3 stepV moreV
  rw [over2_eq, count2_eq]
theorem last_eq : outB (F := Ideal) x0 x1 x2 x3 x4 x5 x6 x7 =
    stepV (b_base3 (F := Ideal) x0 x1 x2 x3 x4 x5 x6 x7) (b_v16 (F := Ideal) x0 x1 x2 x3 x4 x5 x6 x7) (b_v109 (F := Ideal) x0 x1 x2 x3 x4 x5 x6 x7) (leftV (b_v118 (F := Ideal) x0 x1 x2 x3 x4 x5 x6 x7) (b_v102 (F := Ideal) x0 x1 x2 x3 x4 x5 x6 x7)) x5 x6 x7 3 := by
  unfold outB stepV moreV
  rw [over3_eq, count3_eq]

/-- The stored block. -/
theorem outB_eq : outB (F := Ideal) x0 x1 x2 x3 x4 x5 x6 x7 =
    blockV x0 x1 x2 x3 x4 x5 x6 x7 := by
  rw [last_eq, base3_eq, base2_eq, base1_eq, base0_eq, xs_eq, gs_eq, onehot_eq, placed_eq, gates_eq, gidx_eq, logit_eq, hn_eq]
  simp only [ldT_eq, ldG_eq, ldW_eq, ldR_eq, ldU_eq, shapeCast_id]
  rfl

end Cert.Moe.Kernel2Ideal
-- ==== Proof.Moe.OutKernel2Ideal.lean ====
module
/- The result array of the call is the layer of its arguments: each block is the layer on the block's tokens, and the blocks
   cover the array. -/
public import proofs.«01_k».proof.Proof.Moe.WinKernel2Ideal
public import proofs.«01_k».proof.Proof.Moe.BridgeKernel2Ideal
public import Idealize.ShloMosaic.Lib.Pipeline.ValueKit
@[expose] public section
set_option maxRecDepth 16384
noncomputable section
namespace Cert.Moe.Kernel2Ideal
open Idealize.ShloMosaic Idealize.ShloMosaic.TcCoe Cert.Moe.Ref
open Cert.Kernel2Ideal Cert.Kernel2Ideal.Gen Cert.Kernel2Ideal.Hand

variable (m : (ℓ : Loc nD τ sig) → Buf (Elt Ideal) ℓ) (c : Dev nD) (t : Fin cfg0.N)

/-- The router arrays hold reals. -/
structure Fin' : Prop where
  gain : ∀ i, Real' ((m ((c.tc : Thread nD τ).loc main_arg1)) i)
  wg : ∀ i, Real' ((m ((c.tc : Thread nD τ).loc main_arg2)) i)
  bg : ∀ i, Real' ((m ((c.tc : Thread nD τ).loc main_arg3)) i)
  we : ∀ i, Real' ((m ((c.tc : Thread nD τ).loc main_arg4)) i)
  be : ∀ i, Real' ((m ((c.tc : Thread nD τ).loc main_arg5)) i)

/-- The call's windows hold the router's arguments. -/
theorem router (h : Fin' m c) : Router (iblk m c 1 t) (iblk m c 2 t) (iblk m c 3 t) (iblk m c 4 t) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [all1, all2, all3, all4]
  exact ⟨gain_read m c, wg_read m c, we_read m c, low_read m c h.wg h.we, bg_read m c, be_read m c, tri_read m c,
    fun a => h.gain _, fun a j => h.wg _, fun j => h.bg _, fun a e => h.we _, fun e => h.be _⟩

/-- The expert block is the layer on its tokens. -/
theorem moe (h : Fin' m c) (s : Fin 512) (d : Fin 1024) :
    blockV (iblk m c 0 t) (iblk m c 1 t) (iblk m c 2 t) (iblk m c 3 t) (iblk m c 4 t) (iblk m c 5 t) (iblk m c 6 t) (iblk m c 7 t) (ix2 s d) = layerR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 (tok t s) d) :=
  block_eq (router m c t h) (iblk m c 0 t) (m ((c.tc : Thread nD τ).loc main_arg0)) (tok t) (fun s d => in0 m c t s d) _ _ _ _ _ _
    (fun e a f => by rw [all5, w1_read]) (fun e a f => by rw [all6, w3_read]) (fun e f d => by rw [all7, w2_read]) s d

/-- The call's result. -/
def result : FVec Ideal Cert.ReferenceIdeal.S32768x1024 .f32 := layerR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The stored block is the result on the block's tokens. -/
theorem block (h : Fin' m c) (s : Fin 512) (d : Fin 1024) :
    outB (iblk m c 0 t) (iblk m c 1 t) (iblk m c 2 t) (iblk m c 3 t) (iblk m c 4 t) (iblk m c 5 t) (iblk m c 6 t) (iblk m c 7 t) (ix2 s d) = result m c (ix2 (tok t s) d) := by
  rw [outB_eq]
  exact moe m c t h s d

/-- The array after the run. -/
theorem array (h : Fin' m c) : (dats m 0 c).arrAt 8 (cfgs 0).N = result m c := by
  refine (dats m 0 c).arrAt_eq_of_covers 8 _ (by decide +kernel) fun t hf y => ?_
  blk_simp
  rw [after_8]
  have e : (win0_8.blk t).view.emb y = ix2 (tok t (y 0)) (y 1) := by
    blk_ext [idx8 t, tok]
  rw [e]
  exact (congrArg _ (eq_ix2 y)).trans (block m c t h (y 0) (y 1))

end Cert.Moe.Kernel2Ideal
-- ==== Proof.Moe.FinKernelIdeal.lean ====
module
/- The precondition of the call, read element by element: the gain, the two router matrices and the two bias vectors
   hold real numbers. -/
public import proofs.«01_k».proof.Proof.Gen.Pre_router_finite
public import proofs.«01_k».proof.Proof.Moe.Finite
public import Idealize.ShloMosaic.Lib.ReduceAll
@[expose] public section
noncomputable section
namespace Cert.Moe.KernelIdeal
open Idealize.ShloMosaic Cert.Pre_router_finite

variable (x0 : FVec Ideal S32768x1024 .f32) (x1 : FVec Ideal S1024 .f32) (x2 : FVec Ideal S1024x4 .f32) (x3 : FVec Ideal S4 .f32)
  (x4 : FVec Ideal S1024x16 .f32) (x5 : FVec Ideal S16 .f32) (x6 x7 : FVec Ideal S16x1024x256 .f32) (x8 : FVec Ideal S16x256x1024 .f32)
  (x9 : FVec Ideal S32768x1024 .bf16) (x10 : FVec Ideal S1024x1024 .f32) (x11 : FVec Ideal S1024 .f32)

/-- The five router arrays hold reals. -/
theorem fin_all (h : Cert.Pre_router_finite.fn (F := Ideal) x0 x1 x2 x3 x4 x5 x6 x7 x8 x9 x10 x11 = fun _ => 1#1) :
    (∀ i, Real' (x1 i)) ∧ (∀ i, Real' (x2 i)) ∧ (∀ i, Real' (x3 i)) ∧ (∀ i, Real' (x4 i)) ∧ ∀ i, Real' (x5 i) := by
  have h0 := congrFun h (Shape.Idx.first Facts.h_S_)
  dsimp only [fn, fn_part1, andi] at h0
  simp only [IntOp.andi_eq_one] at h0
  obtain ⟨⟨⟨⟨h1, h2⟩, h3⟩, h4⟩, h5⟩ := h0
  have : Subsingleton S_.Idx := ⟨fun a b => funext fun d => d.elim0⟩
  exact ⟨fun i => real_of_abs _ (Host.reduce_andi_all _ _ _ _ _ h1 i), fun i => real_of_abs _ (Host.reduce_andi_all _ _ _ _ _ h2 i),
    fun i => real_of_abs _ (Host.reduce_andi_all _ _ _ _ _ h3 i), fun i => real_of_abs _ (Host.reduce_andi_all _ _ _ _ _ h4 i),
    fun i => real_of_abs _ (Host.reduce_andi_all _ _ _ _ _ h5 i)⟩
end Cert.Moe.KernelIdeal
-- ==== Proof.Moe.FinKernel2Ideal.lean ====
module
/- The precondition of the call, read element by element: the gain, the two router matrices and the two bias vectors
   hold real numbers. -/
public import proofs.«01_k».proof.Proof.Gen.Pre_router_finite2
public import proofs.«01_k».proof.Proof.Moe.Finite
public import Idealize.ShloMosaic.Lib.ReduceAll
@[expose] public section
noncomputable section
namespace Cert.Moe.Kernel2Ideal
open Idealize.ShloMosaic Cert.Pre_router_finite2

variable (x0 : FVec Ideal S32768x1024 .f32) (x1 : FVec Ideal S1024 .f32) (x2 : FVec Ideal S1024x4 .f32) (x3 : FVec Ideal S4 .f32)
  (x4 : FVec Ideal S1024x16 .f32) (x5 : FVec Ideal S16 .f32) (x6 x7 : FVec Ideal S16x1024x256 .f32) (x8 : FVec Ideal S16x256x1024 .f32)

/-- The five router arrays hold reals. -/
theorem fin_all (h : Cert.Pre_router_finite2.fn (F := Ideal) x0 x1 x2 x3 x4 x5 x6 x7 x8 = fun _ => 1#1) :
    (∀ i, Real' (x1 i)) ∧ (∀ i, Real' (x2 i)) ∧ (∀ i, Real' (x3 i)) ∧ (∀ i, Real' (x4 i)) ∧ ∀ i, Real' (x5 i) := by
  have h0 := congrFun h (Shape.Idx.first Facts.h_S_)
  dsimp only [fn, fn_part1, andi] at h0
  simp only [IntOp.andi_eq_one] at h0
  obtain ⟨⟨⟨⟨h1, h2⟩, h3⟩, h4⟩, h5⟩ := h0
  have : Subsingleton S_.Idx := ⟨fun a b => funext fun d => d.elim0⟩
  exact ⟨fun i => real_of_abs _ (Host.reduce_andi_all _ _ _ _ _ h1 i), fun i => real_of_abs _ (Host.reduce_andi_all _ _ _ _ _ h2 i),
    fun i => real_of_abs _ (Host.reduce_andi_all _ _ _ _ _ h3 i), fun i => real_of_abs _ (Host.reduce_andi_all _ _ _ _ _ h4 i),
    fun i => real_of_abs _ (Host.reduce_andi_all _ _ _ _ _ h5 i)⟩
end Cert.Moe.Kernel2Ideal
-- ==== Proof.Moe.BridgeRef.lean ====
module
/- The references' results are the layer's program. -/
public import proofs.«01_k».proof.Proof.Moe.RefVec
public import proofs.«01_k».proof.Proof.Gen.ReferenceIdeal.Read
public import proofs.«01_k».proof.Proof.Gen.Reference2Ideal.Read
@[expose] public section
noncomputable section
namespace Cert.Moe.Ref
open Idealize.ShloMosaic
open Cert.ReferenceIdeal
variable (x0 : FVec Ideal S32768x1024 .f32) (x1 : FVec Ideal S1024 .f32) (x2 : FVec Ideal S1024x4 .f32) (x3 : FVec Ideal S4 .f32)
    (x4 : FVec Ideal S1024x16 .f32) (x5 : FVec Ideal S16 .f32) (x6 x7 : FVec Ideal S16x1024x256 .f32) (x8 : FVec Ideal S16x256x1024 .f32)
    (x9 : FVec Ideal S32768x1024 .bf16) (x10 : FVec Ideal S1024x1024 .f32) (x11 : FVec Ideal S1024 .f32)

theorem ref_eq : Cert.ReferenceIdeal.Read.val_main_v88 (F := Ideal) x0 x1 x2 x3 x4 x5 x6 x7 x8 x9 x10 x11
    = normR (layerR (inR x0 x9 x10) x1 x2 x3 x4 x5 x6 x7 x8) x11 := rfl
theorem ref2_eq : Cert.Reference2Ideal.Read.val_main_v72 (F := Ideal) x0 x1 x2 x3 x4 x5 x6 x7 x8
    = layerR x0 x1 x2 x3 x4 x5 x6 x7 x8 := rfl
end Cert.Moe.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_router_finite
public import proofs.«01_k».proof.Proof.Gen.Pre_router_finite2
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Kernel.Run
public import proofs.«01_k».proof.Proof.KernelIdeal.Run
public import proofs.«01_k».proof.Proof.Kernel2.Run
public import proofs.«01_k».proof.Proof.Kernel2Ideal.Run
public import proofs.«01_k».proof.Proof.Moe.OutKernelIdeal
public import proofs.«01_k».proof.Proof.Moe.OutKernel2Ideal
public import proofs.«01_k».proof.Proof.Moe.FinKernelIdeal
public import proofs.«01_k».proof.Proof.Moe.FinKernel2Ideal
public import proofs.«01_k».proof.Proof.Moe.BridgeRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference `ReferenceIdeal` runs, leaves its arguments unchanged, and has no semaphore. -/
theorem frame_ReferenceIdeal : Cert.quiescent_ReferenceIdeal := fun m ρ _ =>
  (θ_run _ _ _).mono (fun r h => ⟨fun c => (h c).2, sem_eq_zero_of_no_sems (by decide) r.2⟩)
    (Cert.ReferenceIdeal.Value.run m ρ)

/-- The reference `Reference2Ideal` runs, leaves its arguments unchanged, and has no semaphore. -/
theorem frame_Reference2Ideal : Cert.quiescent_Reference2Ideal := fun m ρ _ =>
  (θ_run _ _ _).mono (fun r h => ⟨fun c => (h c).2, sem_eq_zero_of_no_sems (by decide) r.2⟩)
    (Cert.Reference2Ideal.Value.run m ρ)

/-- Under the precondition the router's arrays hold reals. -/
theorem finite (m : (ℓ : Loc Cert.KernelIdeal.nD Cert.KernelIdeal.τ Cert.KernelIdeal.sig) → Buf (Elt Ideal) ℓ)
    (h : Cert.Pre_KernelIdeal_router_finite m) (c : Dev Cert.KernelIdeal.nD) : Cert.Moe.KernelIdeal.Fin' m c :=
  let f := Cert.Moe.KernelIdeal.fin_all _ _ _ _ _ _ _ _ _ _ _ _ (h c)
  ⟨f.1, f.2.1, f.2.2.1, f.2.2.2.1, f.2.2.2.2⟩

/-- The expert layer with the output product and the final norm: kernel and reference end with equal results. -/
theorem value : Cert.algebraic_KernelIdeal_ReferenceIdeal_pre_router_finite := by
  intro m g m' g' hpre hagree
  refine ⟨fun c => Cert.Moe.KernelIdeal.result m c, ?_, ?_⟩
  · exact (θ_run _ _ _).mono
      (fun r h c => ⟨(Pipeline.FramePost.out_eq h.1 c 11).trans (Cert.Moe.KernelIdeal.array m c (finite m hpre c)), h.2 c⟩)
      (θ_run_and (Cert.KernelIdeal.Hand.run_main m g) (Cert.KernelIdeal.Hand.unchanged m g))
  · refine (θ_run _ _ _).mono (fun r h c => ⟨(h c).1.trans ?_, (h c).2⟩) (Cert.ReferenceIdeal.Value.run m' g')
    obtain ⟨a0, a1, a2, a3, a4, a5, a6, a7, a8, a9, a10, a11⟩ := hagree c
    refine (Cert.ReferenceIdeal.Read.val_main_v88_eq (StableHlo.launchContents m' c)).trans ((Cert.Moe.Ref.ref_eq _ _ _ _ _ _ _ _ _ _ _ _).trans ?_)
    show Cert.Moe.Ref.normR (Cert.Moe.Ref.layerR (Cert.Moe.Ref.inR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg11)) = _
    rw [a0, a1, a2, a3, a4, a5, a6, a7, a8, a9, a10, a11]
    rfl

/-- Under the precondition the router's arrays hold reals. -/
theorem finite2 (m : (ℓ : Loc Cert.Kernel2Ideal.nD Cert.Kernel2Ideal.τ Cert.Kernel2Ideal.sig) → Buf (Elt Ideal) ℓ)
    (h : Cert.Pre_Kernel2Ideal_router_finite2 m) (c : Dev Cert.Kernel2Ideal.nD) : Cert.Moe.Kernel2Ideal.Fin' m c :=
  let f := Cert.Moe.Kernel2Ideal.fin_all _ _ _ _ _ _ _ _ _ (h c)
  ⟨f.1, f.2.1, f.2.2.1, f.2.2.2.1, f.2.2.2.2⟩

/-- The expert layer: kernel and reference end with equal results. -/
theorem value2 : Cert.algebraic_Kernel2Ideal_Reference2Ideal_pre_router_finite2 := by
  intro m g m' g' hpre hagree
  refine ⟨fun c => Cert.Moe.Kernel2Ideal.result m c, ?_, ?_⟩
  · exact (θ_run _ _ _).mono
      (fun r h c => ⟨(Pipeline.FramePost.out_eq h.1 c 8).trans (Cert.Moe.Kernel2Ideal.array m c (finite2 m hpre c)), h.2 c⟩)
      (θ_run_and (Cert.Kernel2Ideal.Hand.run_main m g) (Cert.Kernel2Ideal.Hand.unchanged m g))
  · refine (θ_run _ _ _).mono (fun r h c => ⟨(h c).1.trans ?_, (h c).2⟩) (Cert.Reference2Ideal.Value.run m' g')
    obtain ⟨a0, a1, a2, a3, a4, a5, a6, a7, a8⟩ := hagree c
    refine (Cert.Reference2Ideal.Read.val_main_v72_eq m' c).trans ((Cert.Moe.Ref.ref2_eq _ _ _ _ _ _ _ _ _).trans ?_)
    rw [a0, a1, a2, a3, a4, a5, a6, a7, a8]
    rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Pre_router_finite.Gen.facts, Cert.Pre_router_finite2.Gen.facts,
  fun m ρ _ => Cert.Kernel.Hand.frame m ρ,
  fun m ρ _ => Cert.KernelIdeal.Hand.frame m ρ,
  fun m ρ _ => Cert.KernelIdeal.Hand.frame m ρ,
  frame_ReferenceIdeal,
  fun m ρ _ => frame_ReferenceIdeal m ρ trivial,
  fun m ρ _ => Cert.Kernel2.Hand.frame m ρ,
  fun m ρ _ => Cert.Kernel2Ideal.Hand.frame m ρ,
  fun m ρ _ => Cert.Kernel2Ideal.Hand.frame m ρ,
  frame_Reference2Ideal,
  fun m ρ _ => frame_Reference2Ideal m ρ trivial,
  trivial, value, trivial, value2⟩

end Cert.Proof

end
